-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v60)) (v3 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_v58) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S1x4320x77 : Shape := ⟨3, ![1, 4320, 77]⟩
abbrev S1x4320 : Shape := ⟨2, ![1, 4320]⟩
abbrev S1x160x27x54x5 : Shape := ⟨5, ![1, 160, 27, 54, 5]⟩
abbrev S1x160x27x54 : Shape := ⟨4, ![1, 160, 27, 54]⟩
abbrev S1x512 : Shape := ⟨2, ![1, 512]⟩
abbrev S1x512x512 : Shape := ⟨3, ![1, 512, 512]⟩
abbrev S1x512x33 : Shape := ⟨3, ![1, 512, 33]⟩
abbrev S1x512x4 : Shape := ⟨3, ![1, 512, 4]⟩
abbrev S1x512x5 : Shape := ⟨3, ![1, 512, 5]⟩
abbrev S1x512x3 : Shape := ⟨3, ![1, 512, 3]⟩
abbrev S77x128 : Shape := ⟨2, ![77, 128]⟩
abbrev S5x16 : Shape := ⟨2, ![5, 16]⟩
abbrev S128x384 : Shape := ⟨2, ![128, 384]⟩
abbrev S417x384 : Shape := ⟨2, ![417, 384]⟩
abbrev S33x384 : Shape := ⟨2, ![33, 384]⟩
abbrev S417x128 : Shape := ⟨2, ![417, 128]⟩
abbrev S64x128 : Shape := ⟨2, ![64, 128]⟩
abbrev S64x16 : Shape := ⟨2, ![64, 16]⟩
abbrev S4x384 : Shape := ⟨2, ![4, 384]⟩
abbrev S139x128 : Shape := ⟨2, ![139, 128]⟩
abbrev S1x128 : Shape := ⟨2, ![1, 128]⟩
abbrev S_ : Shape := ⟨0, ![]⟩

class Facts : Prop where
  bcast_S_S1x512 : S_.BroadcastsInDim S1x512 (![] : Fin 0 → Fin S1x512.rank)

variable [Facts]

def fn {F : FTy → Type} [FloatOps F] (main_arg0 : FVec F S1x4320x77 .f32) (main_arg1 : IVec S1x4320 32) (main_arg2 : IVec S1x4320 1) (main_arg3 : FVec F S1x160x27x54x5 .f32) (main_arg4 : IVec S1x160x27x54 32) (main_arg5 : IVec S1x512 1) (main_arg6 : IVec S1x512x512 1) (main_arg7 : FVec F S1x512x33 .f32) (main_arg8 : IVec S1x512 32) (main_arg9 : IVec S1x512 32) (main_arg10 : IVec S1x512 32) (main_arg11 : IVec S1x512x4 1) (main_arg12 : IVec S1x512x5 1) (main_arg13 : IVec S1x512x5 32) (main_arg14 : IVec S1x512 32) (main_arg15 : IVec S1x512x3 32) (main_arg16 : FVec F S77x128 .f32) (main_arg17 : FVec F S5x16 .f32) (main_arg18 : FVec F S128x384 .f32) (main_arg19 : FVec F S417x384 .f32) (main_arg20 : FVec F S33x384 .f32) (main_arg21 : FVec F S417x128 .f32) (main_arg22 : FVec F S417x128 .f32) (main_arg23 : FVec F S64x128 .f32) (main_arg24 : FVec F S64x16 .f32) (main_arg25 : FVec F S4x384 .f32) (main_arg26 : FVec F S139x128 .f32) (main_arg27 : FVec F S1x128 .f32) : IVec S1x512 1 :=
  let main_c : IVec S_ 32 := constantI S_ 32 4320#32
  let main_v0 : IVec S1x512 32 := broadcastInDim S1x512 ![] bcast_S_S1x512 main_c
  let main_v1 : IVec S1x512 1 := cmpi .sle main_arg8 main_v0
  let main_c_0 : IVec S_ 32 := constantI S_ 32 0#32
  let main_v2 : IVec S1x512 32 := broadcastInDim S1x512 ![] bcast_S_S1x512 main_c_0
  let main_v3 : IVec S1x512 1 := cmpi .sge main_arg10 main_v2
  let main_v4 : IVec S1x512 1 := andi main_v1 main_v3
  let main_c_1 : IVec S_ 32 := constantI S_ 32 33#32
  let main_v5 : IVec S1x512 32 := broadcastInDim S1x512 ![] bcast_S_S1x512 main_c_1
  let main_v6 : IVec S1x512 1 := cmpi .slt main_arg10 main_v5
  let main_v7 : IVec S1x512 1 := andi main_v4 main_v6
  main_v7
-- ==== Kernel.lean ====
abbrev S1x4320x77 : Shape := ⟨3, ![1, 4320, 77]⟩
abbrev S1x4320 : Shape := ⟨2, ![1, 4320]⟩
abbrev S1x160x27x54x5 : Shape := ⟨5, ![1, 160, 27, 54, 5]⟩
abbrev S1x160x27x54 : Shape := ⟨4, ![1, 160, 27, 54]⟩
abbrev S1x512 : Shape := ⟨2, ![1, 512]⟩
abbrev S1x512x512 : Shape := ⟨3, ![1, 512, 512]⟩
abbrev S1x512x33 : Shape := ⟨3, ![1, 512, 33]⟩
abbrev S1x512x4 : Shape := ⟨3, ![1, 512, 4]⟩
abbrev S1x512x5 : Shape := ⟨3, ![1, 512, 5]⟩
abbrev S1x512x3 : Shape := ⟨3, ![1, 512, 3]⟩
abbrev S77x128 : Shape := ⟨2, ![77, 128]⟩
abbrev S5x16 : Shape := ⟨2, ![5, 16]⟩
abbrev S128x384 : Shape := ⟨2, ![128, 384]⟩
abbrev S417x384 : Shape := ⟨2, ![417, 384]⟩
abbrev S33x384 : Shape := ⟨2, ![33, 384]⟩
abbrev S417x128 : Shape := ⟨2, ![417, 128]⟩
abbrev S64x128 : Shape := ⟨2, ![64, 128]⟩
abbrev S64x16 : Shape := ⟨2, ![64, 16]⟩
abbrev S4x384 : Shape := ⟨2, ![4, 384]⟩
abbrev S139x128 : Shape := ⟨2, ![139, 128]⟩
abbrev S1x128 : Shape := ⟨2, ![1, 128]⟩
abbrev S4320x77 : Shape := ⟨2, ![4320, 77]⟩
abbrev S512 : Shape := ⟨1, ![512]⟩
abbrev S_ : Shape := ⟨0, ![]⟩
abbrev S512x1 : Shape := ⟨2, ![512, 1]⟩
abbrev S512x33 : Shape := ⟨2, ![512, 33]⟩
abbrev S512x4 : Shape := ⟨2, ![512, 4]⟩
abbrev S512x8 : Shape := ⟨2, ![512, 8]⟩
abbrev S8x384 : Shape := ⟨2, ![8, 384]⟩
abbrev S384x384 : Shape := ⟨2, ![384, 384]⟩
abbrev S384x128 : Shape := ⟨2, ![384, 128]⟩
abbrev S33x128 : Shape := ⟨2, ![33, 128]⟩
abbrev S512x5 : Shape := ⟨2, ![512, 5]⟩
abbrev S512x3 : Shape := ⟨2, ![512, 3]⟩
abbrev S512x2 : Shape := ⟨2, ![512, 2]⟩
abbrev S8x512 : Shape := ⟨2, ![8, 512]⟩
abbrev S512x512 : Shape := ⟨2, ![512, 512]⟩
abbrev S66x128 : Shape := ⟨2, ![66, 128]⟩
abbrev S1x1x1x128 : Shape := ⟨4, ![1, 1, 1, 128]⟩
abbrev S6x1x1x128 : Shape := ⟨4, ![6, 1, 1, 128]⟩
abbrev S6x128 : Shape := ⟨2, ![6, 128]⟩
abbrev S7x1x1x128 : Shape := ⟨4, ![7, 1, 1, 128]⟩
abbrev S7x128 : Shape := ⟨2, ![7, 128]⟩
abbrev S2x1x1x128 : Shape := ⟨4, ![2, 1, 1, 128]⟩
abbrev S2x128 : Shape := ⟨2, ![2, 128]⟩
abbrev S160x128 : Shape := ⟨2, ![160, 128]⟩
abbrev S512x384 : Shape := ⟨2, ![512, 384]⟩
abbrev S512x512x128 : Shape := ⟨3, ![512, 512, 128]⟩
abbrev S32x8 : Shape := ⟨2, ![32, 8]⟩
abbrev S32x512 : Shape := ⟨2, ![32, 512]⟩
abbrev S32x512x128 : Shape := ⟨3, ![32, 512, 128]⟩
abbrev S512x128 : Shape := ⟨2, ![512, 128]⟩
abbrev S4320x128 : Shape := ⟨2, ![4320, 128]⟩
abbrev S512x4320 : Shape := ⟨2, ![512, 4320]⟩
abbrev S32x1 : Shape := ⟨2, ![32, 1]⟩
abbrev S32x72x512 : Shape := ⟨3, ![32, 72, 512]⟩
abbrev S32x8x512 : Shape := ⟨3, ![32, 8, 512]⟩
abbrev S32x1x512 : Shape := ⟨3, ![32, 1, 512]⟩
abbrev S32x32x512 : Shape := ⟨3, ![32, 32, 512]⟩
abbrev S32x7x512 : Shape := ⟨3, ![32, 7, 512]⟩
abbrev S32x200x512 : Shape := ⟨3, ![32, 200, 512]⟩
abbrev S32x384 : Shape := ⟨2, ![32, 384]⟩
abbrev S32x128 : Shape := ⟨2, ![32, 128]⟩
abbrev S32x33 : Shape := ⟨2, ![32, 33]⟩
abbrev S200x128 : Shape := ⟨2, ![200, 128]⟩
abbrev S1x200x512 : Shape := ⟨3, ![1, 200, 512]⟩
abbrev S200x512 : Shape := ⟨2, ![200, 512]⟩
abbrev S1x512x128 : Shape := ⟨3, ![1, 512, 128]⟩
abbrev S1x512x1 : Shape := ⟨3, ![1, 512, 1]⟩
abbrev S1x1x512 : Shape := ⟨3, ![1, 1, 512]⟩
abbrev S1x512x384 : Shape := ⟨3, ![1, 512, 384]⟩
abbrev S1x512x512x128 : Shape := ⟨4, ![1, 512, 512, 128]⟩

abbrev nBuf : Space → Nat
  | .hbm => 99
  | .vmem => 29
  | .smem => 0
  | _ => 0

abbrev bufTy : (tb : Table) → Fin (tcTables nBuf tb) → BufTy
  | .hbm, ⟨0, _⟩ => ⟨S1x4320x77, .f32⟩
  | .hbm, ⟨1, _⟩ => ⟨S1x4320, .i32⟩
  | .hbm, ⟨2, _⟩ => ⟨S1x4320, .i1⟩
  | .hbm, ⟨3, _⟩ => ⟨S1x160x27x54x5, .f32⟩
  | .hbm, ⟨4, _⟩ => ⟨S1x160x27x54, .i32⟩
  | .hbm, ⟨5, _⟩ => ⟨S1x512, .i1⟩
  | .hbm, ⟨6, _⟩ => ⟨S1x512x512, .i1⟩
  | .hbm, ⟨7, _⟩ => ⟨S1x512x33, .f32⟩
  | .hbm, ⟨8, _⟩ => ⟨S1x512, .i32⟩
  | .hbm, ⟨9, _⟩ => ⟨S1x512, .i32⟩
  | .hbm, ⟨10, _⟩ => ⟨S1x512, .i32⟩
  | .hbm, ⟨11, _⟩ => ⟨S1x512x4, .i1⟩
  | .hbm, ⟨12, _⟩ => ⟨S1x512x5, .i1⟩
  | .hbm, ⟨13, _⟩ => ⟨S1x512x5, .i32⟩
  | .hbm, ⟨14, _⟩ => ⟨S1x512, .i32⟩
  | .hbm, ⟨15, _⟩ => ⟨S1x512x3, .i32⟩
  | .hbm, ⟨16, _⟩ => ⟨S77x128, .f32⟩
  | .hbm, ⟨17, _⟩ => ⟨S5x16, .f32⟩
  | .hbm, ⟨18, _⟩ => ⟨S128x384, .f32⟩
  | .hbm, ⟨19, _⟩ => ⟨S417x384, .f32⟩
  | .hbm, ⟨20, _⟩ => ⟨S33x384, .f32⟩
  | .hbm, ⟨21, _⟩ => ⟨S417x128, .f32⟩
  | .hbm, ⟨22, _⟩ => ⟨S417x128, .f32⟩
  | .hbm, ⟨23, _⟩ => ⟨S64x128, .f32⟩
  | .hbm, ⟨24, _⟩ => ⟨S64x16, .f32⟩
  | .hbm, ⟨25, _⟩ => ⟨S4x384, .f32⟩
  | .hbm, ⟨26, _⟩ => ⟨S139x128, .f32⟩
  | .hbm, ⟨27, _⟩ => ⟨S1x128, .f32⟩
  | .hbm, ⟨28, _⟩ => ⟨S4320x77, .f32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S512x1, .f32⟩
  | .hbm, ⟨35, _⟩ => ⟨S512x33, .f32⟩
  | .hbm, ⟨36, _⟩ => ⟨S512, .i32⟩
  | .hbm, ⟨37, _⟩ => ⟨S512x1, .i32⟩
  | .hbm, ⟨38, _⟩ => ⟨S512x4, .i1⟩
  | .hbm, ⟨39, _⟩ => ⟨S512x4, .f32⟩
  | .hbm, ⟨40, _⟩ => ⟨S_, .i32⟩
  | .hbm, ⟨41, _⟩ => ⟨S_, .f32⟩
  | .hbm, ⟨42, _⟩ => ⟨S512x8, .f32⟩
  | .hbm, ⟨43, _⟩ => ⟨S_, .i32⟩
  | .hbm, ⟨44, _⟩ => ⟨S_, .f32⟩
  | .hbm, ⟨45, _⟩ => ⟨S8x384, .f32⟩
  | .hbm, ⟨46, _⟩ => ⟨S384x384, .f32⟩
  | .hbm, ⟨47, _⟩ => ⟨S33x384, .f32⟩
  | .hbm, ⟨48, _⟩ => ⟨S384x128, .f32⟩
  | .hbm, ⟨49, _⟩ => ⟨S33x128, .f32⟩
  | .hbm, ⟨50, _⟩ => ⟨S384x128, .f32⟩
  | .hbm, ⟨51, _⟩ => ⟨S33x128, .f32⟩
  | .hbm, ⟨52, _⟩ => ⟨S512x5, .i32⟩
  | .hbm, ⟨53, _⟩ => ⟨S1x512x3, .i1⟩
  | .hbm, ⟨54, _⟩ => ⟨S512x3, .i1⟩
  | .hbm, ⟨55, _⟩ => ⟨S_, .i1⟩
  | .hbm, ⟨56, _⟩ => ⟨S512, .i1⟩
  | .hbm, ⟨57, _⟩ => ⟨S512x1, .i1⟩
  | .hbm, ⟨58, _⟩ => ⟨S512x1, .i32⟩
  | .hbm, ⟨59, _⟩ => ⟨S_, .i32⟩
  | .hbm, ⟨60, _⟩ => ⟨S512x2, .i32⟩
  | .hbm, ⟨61, _⟩ => ⟨S512x8, .i32⟩
  | .hbm, ⟨62, _⟩ => ⟨S8x512, .i32⟩
  | .hbm, ⟨63, _⟩ => ⟨S512x512, .i1⟩
  | .hbm, ⟨64, _⟩ => ⟨S512x512, .f32⟩
  | .hbm, ⟨65, _⟩ => ⟨S512x512, .f32⟩
  | .hbm, ⟨66, _⟩ => ⟨S_, .f32⟩
  | .hbm, ⟨67, _⟩ => ⟨S1x128, .f32⟩
  | .hbm, ⟨68, _⟩ => ⟨S66x128, .f32⟩
  | .hbm, ⟨69, _⟩ => ⟨S1x1x1x128, .f32⟩
  | .hbm, ⟨70, _⟩ => ⟨S6x1x1x128, .f32⟩
  | .hbm, ⟨71, _⟩ => ⟨S6x128, .f32⟩
  | .hbm, ⟨72, _⟩ => ⟨S66x128, .f32⟩
  | .hbm, ⟨73, _⟩ => ⟨S1x1x1x128, .f32⟩
  | .hbm, ⟨74, _⟩ => ⟨S6x1x1x128, .f32⟩
  | .hbm, ⟨75, _⟩ => ⟨S6x128, .f32⟩
  | .hbm, ⟨76, _⟩ => ⟨S1x128, .f32⟩
  | .hbm, ⟨77, _⟩ => ⟨S1x1x1x128, .f32⟩
  | .hbm, ⟨78, _⟩ => ⟨S7x1x1x128, .f32⟩
  | .hbm, ⟨79, _⟩ => ⟨S7x128, .f32⟩
  | .hbm, ⟨80, _⟩ => ⟨S6x128, .f32⟩
  | .hbm, ⟨81, _⟩ => ⟨S1x1x1x128, .f32⟩
  | .hbm, ⟨82, _⟩ => ⟨S2x1x1x128, .f32⟩
  | .hbm, ⟨83, _⟩ => ⟨S2x128, .f32⟩
  | .hbm, ⟨84, _⟩ => ⟨S160x128, .f32⟩
  | .hbm, ⟨85, _⟩ => ⟨S160x128, .bf16⟩
  | .hbm, ⟨86, _⟩ => ⟨S512x384, .f32⟩
  | .hbm, ⟨87, _⟩ => ⟨S512x512x128, .f32⟩
  | .hbm, ⟨88, _⟩ => ⟨S_, .i32⟩
  | .hbm, ⟨89, _⟩ => ⟨S512, .i32⟩
  | .hbm, ⟨90, _⟩ => ⟨S512, .i1⟩
  | .hbm, ⟨91, _⟩ => ⟨S1x512, .i1⟩
  | .hbm, ⟨92, _⟩ => ⟨S1x512x1, .i1⟩
  | .hbm, ⟨93, _⟩ => ⟨S1x1x512, .i1⟩
  | .hbm, ⟨94, _⟩ => ⟨S1x512x512, .i1⟩
  | .hbm, ⟨95, _⟩ => ⟨S1x512x512, .i1⟩
  | .hbm, ⟨96, _⟩ => ⟨S1x512x512, .i1⟩
  | .hbm, ⟨97, _⟩ => ⟨S1x512x384, .f32⟩
  | .hbm, ⟨98, _⟩ => ⟨S1x512x512x128, .f32⟩
  | .local _ .vmem, ⟨0, _⟩ => ⟨S4320x77, .f32⟩
  | .local _ .vmem, ⟨1, _⟩ => ⟨S77x128, .f32⟩
  | .local _ .vmem, ⟨2, _⟩ => ⟨S512x1, .f32⟩
  | .local _ .vmem, ⟨3, _⟩ => ⟨S512x33, .f32⟩
  | .local _ .vmem, ⟨4, _⟩ => ⟨S128x384, .f32⟩
  | .local _ .vmem, ⟨5, _⟩ => ⟨S384x384, .f32⟩
  | .local _ .vmem, ⟨6, _⟩ => ⟨S33x384, .f32⟩
  | .local _ .vmem, ⟨7, _⟩ => ⟨S512x1, .i32⟩
  | .local _ .vmem, ⟨8, _⟩ => ⟨S33x384, .f32⟩
  | .local _ .vmem, ⟨9, _⟩ => ⟨S512x8, .f32⟩
  | .local _ .vmem, ⟨10, _⟩ => ⟨S8x384, .f32⟩
  | .local _ .vmem, ⟨11, _⟩ => ⟨S384x128, .f32⟩
  | .local _ .vmem, ⟨12, _⟩ => ⟨S33x128, .f32⟩
  | .local _ .vmem, ⟨13, _⟩ => ⟨S384x128, .f32⟩
  | .local _ .vmem, ⟨14, _⟩ => ⟨S33x128, .f32⟩
  | .local _ .vmem, ⟨15, _⟩ => ⟨S32x8, .i32⟩
  | .local _ .vmem, ⟨16, _⟩ => ⟨S32x8, .i32⟩
  | .local _ .vmem, ⟨17, _⟩ => ⟨S8x512, .i32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S160x128, .bf16⟩
  | .local _ .vmem, ⟨23, _⟩ => ⟨S1x128, .f32⟩
  | .local _ .vmem, ⟨24, _⟩ => ⟨S512x384, .f32⟩
  | .local _ .vmem, ⟨25, _⟩ => ⟨S32x512x128, .f32⟩
  | .local _ .vmem, ⟨26, _⟩ => ⟨S32x512x128, .f32⟩
  | .local _ .vmem, ⟨27, _⟩ => ⟨S512x384, .f32⟩
  | .local _ .vmem, ⟨28, _⟩ => ⟨S512x128, .f32⟩
  | _, _ => ⟨S1x4320x77, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_c : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_c_0 : Ref sig .tc := ⟨.hbm, 40, rfl⟩
abbrev main_call0_v0 : Ref sig .tc := ⟨.hbm, 41, rfl⟩
abbrev main_v11 : Ref sig .tc := ⟨.hbm, 42, rfl⟩
abbrev main_c_1 : Ref sig .tc := ⟨.hbm, 43, rfl⟩
abbrev main_call1_v0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_3 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50_0 : Ref sig .tc := ⟨.hbm, 86, rfl⟩
abbrev main_v50_1 : Ref sig .tc := ⟨.hbm, 87, rfl⟩
abbrev main_c_4 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg15_1 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg22_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem15_1 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem22_1 : DmaSem sig := 26

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c32_i32_18 : BitVec 32 := 32#32
  let v107 : BitVec 32 := Scalar.muli arg0 c32_i32_18
  let v132 : Index := Scalar.indexCast v107
  let c0_26 : Index := 0#32
  ![v132.toNat, 0]
def k0_off2 (i : grid0.Coords) : Fin 2 → Nat :=
  let arg0 : BitVec 32 := BitVec.ofNat 32 (i 0).val
  let c32_i32_18 : BitVec 32 := 32#32
  let v107 : BitVec 32 := Scalar.muli arg0 c32_i32_18
  let v137 : Index := Scalar.indexCast v107
  let c0_30 : Index := 0#32
  ![v137.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4320x77 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S77x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x33 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S33x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S33x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S33x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S33x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x8 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x512 .i32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S32x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S160x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S32x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceIdeal.lean ====
abbrev S1x4320x77 : Shape := ⟨3, ![1, 4320, 77]⟩
abbrev S1x4320 : Shape := ⟨2, ![1, 4320]⟩
abbrev S1x160x27x54x5 : Shape := ⟨5, ![1, 160, 27, 54, 5]⟩
abbrev S1x160x27x54 : Shape := ⟨4, ![1, 160, 27, 54]⟩
abbrev S1x512 : Shape := ⟨2, ![1, 512]⟩
abbrev S1x512x512 : Shape := ⟨3, ![1, 512, 512]⟩
abbrev S1x512x33 : Shape := ⟨3, ![1, 512, 33]⟩
abbrev S1x512x4 : Shape := ⟨3, ![1, 512, 4]⟩
abbrev S1x512x5 : Shape := ⟨3, ![1, 512, 5]⟩
abbrev S1x512x3 : Shape := ⟨3, ![1, 512, 3]⟩
abbrev S77x128 : Shape := ⟨2, ![77, 128]⟩
abbrev S5x16 : Shape := ⟨2, ![5, 16]⟩
abbrev S128x384 : Shape := ⟨2, ![128, 384]⟩
abbrev S417x384 : Shape := ⟨2, ![417, 384]⟩
abbrev S33x384 : Shape := ⟨2, ![33, 384]⟩
abbrev S417x128 : Shape := ⟨2, ![417, 128]⟩
abbrev S64x128 : Shape := ⟨2, ![64, 128]⟩
abbrev S64x16 : Shape := ⟨2, ![64, 16]⟩
abbrev S4x384 : Shape := ⟨2, ![4, 384]⟩
abbrev S139x128 : Shape := ⟨2, ![139, 128]⟩
abbrev S1x128 : Shape := ⟨2, ![1, 128]⟩
abbrev S_ : Shape := ⟨0, ![]⟩
abbrev S1 : Shape := ⟨1, ![1]⟩
abbrev S4320 : Shape := ⟨1, ![4320]⟩
abbrev S1x1 : Shape := ⟨2, ![1, 1]⟩
abbrev S1x4320x128 : Shape := ⟨3, ![1, 4320, 128]⟩
abbrev S4320x128 : Shape := ⟨2, ![4320, 128]⟩
abbrev S512 : Shape := ⟨1, ![512]⟩
abbrev S4320x1 : Shape := ⟨2, ![4320, 1]⟩
abbrev S4320x512 : Shape := ⟨2, ![4320, 512]⟩
abbrev S512x128 : Shape := ⟨2, ![512, 128]⟩
abbrev S512x1 : Shape := ⟨2, ![512, 1]⟩
abbrev S1x512x128 : Shape := ⟨3, ![1, 512, 128]⟩
abbrev S1x512x384 : Shape := ⟨3, ![1, 512, 384]⟩
abbrev S1x512x417 : Shape := ⟨3, ![1, 512, 417]⟩
abbrev S1x512x1 : Shape := ⟨3, ![1, 512, 1]⟩
abbrev S1x1x1 : Shape := ⟨3, ![1, 1, 1]⟩
abbrev S1x512x1x128 : Shape := ⟨4, ![1, 512, 1, 128]⟩
abbrev S1x1x512x128 : Shape := ⟨4, ![1, 1, 512, 128]⟩
abbrev S1x512x512x128 : Shape := ⟨4, ![1, 512, 512, 128]⟩
abbrev S1x1x512 : Shape := ⟨3, ![1, 1, 512]⟩
abbrev S1x512x512x1 : Shape := ⟨4, ![1, 512, 512, 1]⟩
abbrev S1x1x1x66 : Shape := ⟨4, ![1, 1, 1, 66]⟩
abbrev S1x512x512x66 : Shape := ⟨4, ![1, 512, 512, 66]⟩
abbrev S1x1x1x6 : Shape := ⟨4, ![1, 1, 1, 6]⟩
abbrev S1x512x512x6 : Shape := ⟨4, ![1, 512, 512, 6]⟩
abbrev S1x512x512x139 : Shape := ⟨4, ![1, 512, 512, 139]⟩
abbrev S512x512 : Shape := ⟨2, ![512, 512]⟩

abbrev nBuf : Space → Nat
  | .hbm => 255
  | .vmem => 0
  | .smem => 0
  | _ => 0

abbrev hbmTy0_0 (i : Nat) : BufTy := match i % 128 with
  | 0 => ⟨S1x4320x77, .f32⟩
  | 1 => ⟨S1x4320, .i32⟩
  | 2 => ⟨S1x4320, .i1⟩
  | 3 => ⟨S1x160x27x54x5, .f32⟩
  | 4 => ⟨S1x160x27x54, .i32⟩
  | 5 => ⟨S1x512, .i1⟩
  | 6 => ⟨S1x512x512, .i1⟩
  | 7 => ⟨S1x512x33, .f32⟩
  | 8 => ⟨S1x512, .i32⟩
  | 9 => ⟨S1x512, .i32⟩
  | 10 => ⟨S1x512, .i32⟩
  | 11 => ⟨S1x512x4, .i1⟩
  | 12 => ⟨S1x512x5, .i1⟩
  | 13 => ⟨S1x512x5, .i32⟩
  | 14 => ⟨S1x512, .i32⟩
  | 15 => ⟨S1x512x3, .i32⟩
  | 16 => ⟨S77x128, .f32⟩
  | 17 => ⟨S5x16, .f32⟩
  | 18 => ⟨S128x384, .f32⟩
  | 19 => ⟨S417x384, .f32⟩
  | 20 => ⟨S33x384, .f32⟩
  | 21 => ⟨S417x128, .f32⟩
  | 22 => ⟨S417x128, .f32⟩
  | 23 => ⟨S64x128, .f32⟩
  | 24 => ⟨S64x16, .f32⟩
  | 25 => ⟨S4x384, .f32⟩
  | 26 => ⟨S139x128, .f32⟩
  | 27 => ⟨S1x128, .f32⟩
  | 28 => ⟨S_, .i32⟩
  | 29 => ⟨S1x512, .i32⟩
  | 30 => ⟨S1x512, .i1⟩
  | 31 => ⟨S_, .i32⟩
  | 32 => ⟨S_, .i32⟩
  | 33 => ⟨S1x512, .i32⟩
  | 34 => ⟨S1x512, .i32⟩
  | 35 => ⟨S_, .i32⟩
  | 36 => ⟨S1, .i32⟩
  | 37 => ⟨S4320, .i32⟩
  | 38 => ⟨S1x4320, .i32⟩
  | 39 => ⟨S1x1, .i32⟩
  | 40 => ⟨S1x4320, .i32⟩
  | 41 => ⟨S1x4320, .i1⟩
  | 42 => ⟨S1x4320x128, .f32⟩
  | 43 => ⟨S4320x128, .f32⟩
  | 44 => ⟨S512, .i32⟩
  | 45 => ⟨S4320, .i1⟩
  | 46 => ⟨S_, .i32⟩
  | 47 => ⟨S_, .i32⟩
  | 48 => ⟨S512, .i32⟩
  | 49 => ⟨S1x512, .i32⟩
  | 50 => ⟨S4320, .i32⟩
  | 51 => ⟨S4320x1, .i32⟩
  | 52 => ⟨S4320x512, .i32⟩
  | 53 => ⟨S4320x512, .i32⟩
  | 54 => ⟨S4320x512, .i1⟩
  | 55 => ⟨S4320x512, .i32⟩
  | 56 => ⟨S_, .i32⟩
  | 57 => ⟨S4320, .i32⟩
  | 58 => ⟨S_, .i32⟩
  | 59 => ⟨S4320, .i32⟩
  | 60 => ⟨S4320, .i32⟩
  | 61 => ⟨S4320x1, .i1⟩
  | 62 => ⟨S4320x1, .f32⟩
  | 63 => ⟨S4320x128, .f32⟩
  | 64 => ⟨S4320x128, .f32⟩
  | 65 => ⟨S_, .f32⟩
  | 66 => ⟨S512x128, .f32⟩
  | 67 => ⟨S4320x1, .i32⟩
  | 68 => ⟨S512x128, .f32⟩
  | 69 => ⟨S_, .i32⟩
  | 70 => ⟨S512, .i32⟩
  | 71 => ⟨S512, .i32⟩
  | 72 => ⟨S512x1, .i32⟩
  | 73 => ⟨S512x1, .f32⟩
  | 74 => ⟨S512x128, .f32⟩
  | 75 => ⟨S512x128, .f32⟩
  | 76 => ⟨S1x512x128, .f32⟩
  | 77 => ⟨S1x512x384, .f32⟩
  | 78 => ⟨S1x512x417, .f32⟩
  | 79 => ⟨S1x512x384, .f32⟩
  | 80 => ⟨S_, .i32⟩
  | 81 => ⟨S1x512, .i32⟩
  | 82 => ⟨S1x512, .i1⟩
  | 83 => ⟨S_, .i32⟩
  | 84 => ⟨S1x512, .i32⟩
  | 85 => ⟨S1x512, .i32⟩
  | 86 => ⟨S1x512, .i32⟩
  | 87 => ⟨S1x512x1, .i32⟩
  | 88 => ⟨S1, .i32⟩
  | 89 => ⟨S_, .i32⟩
  | 90 => ⟨S1x512x1, .i32⟩
  | 91 => ⟨S1x512x1, .i1⟩
  | 92 => ⟨S1x1x1, .i32⟩
  | 93 => ⟨S1x512x1, .i32⟩
  | 94 => ⟨S1x512x1, .i1⟩
  | 95 => ⟨S1x512x1, .i1⟩
  | 96 => ⟨S_, .i1⟩
  | 97 => ⟨S1x512, .i1⟩
  | 98 => ⟨S1x512x384, .f32⟩
  | 99 => ⟨S1x512x384, .i1⟩
  | 100 => ⟨S_, .f32⟩
  | 101 => ⟨S1x512x384, .f32⟩
  | 102 => ⟨S1x512x384, .f32⟩
  | 103 => ⟨S1x512x384, .f32⟩
  | 104 => ⟨S1x512x128, .f32⟩
  | 105 => ⟨S1x512x1x128, .f32⟩
  | 106 => ⟨S1x512x128, .f32⟩
  | 107 => ⟨S1x1x512x128, .f32⟩
  | 108 => ⟨S1x512x512x128, .f32⟩
  | 109 => ⟨S1x512x512x128, .f32⟩
  | 110 => ⟨S1x512x512x128, .f32⟩
  | 111 => ⟨S1x512x4, .f32⟩
  | 112 => ⟨S1x512x384, .f32⟩
  | 113 => ⟨S1x512x384, .f32⟩
  | 114 => ⟨S1x512x1, .i32⟩
  | 115 => ⟨S1x512, .i32⟩
  | 116 => ⟨S1x512x1, .i32⟩
  | 117 => ⟨S1x512, .i32⟩
  | 118 => ⟨S1x512x1, .i32⟩
  | 119 => ⟨S1x512, .i32⟩
  | 120 => ⟨S1x512x1, .i32⟩
  | 121 => ⟨S1x512, .i32⟩
  | 122 => ⟨S1x512x1, .i32⟩
  | 123 => ⟨S1x512, .i32⟩
  | 124 => ⟨S1x512x1, .i32⟩
  | 125 => ⟨S1x1x512, .i32⟩
  | 126 => ⟨S1x512x512, .i32⟩
  | 127 => ⟨S1x512x512, .i32⟩
  | _ => ⟨S1x4320x77, .f32⟩

abbrev hbmTy0_1 (i : Nat) : BufTy := match i % 128 with
  | 0 => ⟨S1x512x512, .i1⟩
  | 1 => ⟨S1x512x1, .i32⟩
  | 2 => ⟨S1x1x512, .i32⟩
  | 3 => ⟨S1x512x512, .i32⟩
  | 4 => ⟨S1x512x512, .i32⟩
  | 5 => ⟨S1x512x512, .i1⟩
  | 6 => ⟨S1x512x1, .i32⟩
  | 7 => ⟨S1x1x512, .i32⟩
  | 8 => ⟨S1x512x512, .i32⟩
  | 9 => ⟨S1x512x512, .i32⟩
  | 10 => ⟨S1x512x512, .i32⟩
  | 11 => ⟨S_, .i32⟩
  | 12 => ⟨S1x512x512, .i32⟩
  | 13 => ⟨S1x512x512, .i32⟩
  | 14 => ⟨S_, .i32⟩
  | 15 => ⟨S_, .i32⟩
  | 16 => ⟨S_, .i32⟩
  | 17 => ⟨S1x512x512, .i32⟩
  | 18 => ⟨S1x512x512, .i32⟩
  | 19 => ⟨S_, .i32⟩
  | 20 => ⟨S1x512x512, .i32⟩
  | 21 => ⟨S1x512x512, .i32⟩
  | 22 => ⟨S_, .i32⟩
  | 23 => ⟨S_, .i32⟩
  | 24 => ⟨S1x512x512, .i32⟩
  | 25 => ⟨S1x512x512, .i32⟩
  | 26 => ⟨S1x512x1, .i32⟩
  | 27 => ⟨S1x1x512, .i32⟩
  | 28 => ⟨S1x512x512, .i32⟩
  | 29 => ⟨S1x512x512, .i32⟩
  | 30 => ⟨S1x512x512, .i32⟩
  | 31 => ⟨S_, .i32⟩
  | 32 => ⟨S1x512x512, .i32⟩
  | 33 => ⟨S1x512x512, .i32⟩
  | 34 => ⟨S_, .i32⟩
  | 35 => ⟨S_, .i32⟩
  | 36 => ⟨S_, .i32⟩
  | 37 => ⟨S1x512x512, .i32⟩
  | 38 => ⟨S1x512x512, .i32⟩
  | 39 => ⟨S_, .i32⟩
  | 40 => ⟨S1x512x512, .i32⟩
  | 41 => ⟨S1x512x512, .i32⟩
  | 42 => ⟨S_, .i32⟩
  | 43 => ⟨S_, .i32⟩
  | 44 => ⟨S1x512x512, .i32⟩
  | 45 => ⟨S1x512x512, .i32⟩
  | 46 => ⟨S1x512x1, .i32⟩
  | 47 => ⟨S1x1x512, .i32⟩
  | 48 => ⟨S1x512x512, .i32⟩
  | 49 => ⟨S1x512x512, .i32⟩
  | 50 => ⟨S1x512x512, .i32⟩
  | 51 => ⟨S_, .i32⟩
  | 52 => ⟨S1x512x512, .i32⟩
  | 53 => ⟨S1x512x512, .i32⟩
  | 54 => ⟨S_, .i32⟩
  | 55 => ⟨S_, .i32⟩
  | 56 => ⟨S_, .i32⟩
  | 57 => ⟨S1x512x512, .i32⟩
  | 58 => ⟨S1x512x512, .i32⟩
  | 59 => ⟨S_, .i32⟩
  | 60 => ⟨S1x512x512, .i32⟩
  | 61 => ⟨S1x512x512, .i32⟩
  | 62 => ⟨S_, .i32⟩
  | 63 => ⟨S_, .i32⟩
  | 64 => ⟨S1x512x512, .i32⟩
  | 65 => ⟨S1x512x512, .i32⟩
  | 66 => ⟨S1x512x512x1, .i32⟩
  | 67 => ⟨S1x1x1x66, .i32⟩
  | 68 => ⟨S1x512x512x66, .i32⟩
  | 69 => ⟨S1x512x512x66, .i32⟩
  | 70 => ⟨S1x512x512x66, .i1⟩
  | 71 => ⟨S1x512x512x66, .f32⟩
  | 72 => ⟨S1x512x512x1, .i32⟩
  | 73 => ⟨S1x1x1x66, .i32⟩
  | 74 => ⟨S1x512x512x66, .i32⟩
  | 75 => ⟨S1x512x512x66, .i32⟩
  | 76 => ⟨S1x512x512x66, .i1⟩
  | 77 => ⟨S1x512x512x66, .f32⟩
  | 78 => ⟨S1x512x512x1, .i1⟩
  | 79 => ⟨S1x512x512x1, .f32⟩
  | 80 => ⟨S1x512x512x1, .i32⟩
  | 81 => ⟨S1x1x1x6, .i32⟩
  | 82 => ⟨S1x512x512x6, .i32⟩
  | 83 => ⟨S1x512x512x6, .i32⟩
  | 84 => ⟨S1x512x512x6, .i1⟩
  | 85 => ⟨S1x512x512x6, .f32⟩
  | 86 => ⟨S1x512x512x139, .f32⟩
  | 87 => ⟨S1x512x512x128, .f32⟩
  | 88 => ⟨S1x512x3, .i1⟩
  | 89 => ⟨S_, .i1⟩
  | 90 => ⟨S1x512, .i1⟩
  | 91 => ⟨S1x512x1, .i1⟩
  | 92 => ⟨S1x1x512, .i1⟩
  | 93 => ⟨S1x512x512, .i1⟩
  | 94 => ⟨S1x512x512, .i1⟩
  | 95 => ⟨S1x512x512, .i1⟩
  | 96 => ⟨S1x512x512x1, .i1⟩
  | 97 => ⟨S_, .f32⟩
  | 98 => ⟨S_, .f32⟩
  | 99 => ⟨S1x512x512x128, .i1⟩
  | 100 => ⟨S1x512x512x128, .f32⟩
  | 101 => ⟨S1x512x512x128, .f32⟩
  | 102 => ⟨S1x512x512x128, .f32⟩
  | 103 => ⟨S1x512x512, .i1⟩
  | 104 => ⟨S1x512x512, .i1⟩
  | 105 => ⟨S512x512, .i32⟩
  | 106 => ⟨S512x512, .i32⟩
  | 107 => ⟨S_, .i32⟩
  | 108 => ⟨S512x512, .i32⟩
  | 109 => ⟨S512x512, .i32⟩
  | 110 => ⟨S512x512, .i1⟩
  | 111 => ⟨S1x512x512, .i1⟩
  | 112 => ⟨S_, .i1⟩
  | 113 => ⟨S1x512x512, .i1⟩
  | 114 => ⟨S1x512x512, .i1⟩
  | 115 => ⟨S1x512x512, .f32⟩
  | 116 => ⟨S1x512x512x1, .f32⟩
  | 117 => ⟨S1x512x512x128, .f32⟩
  | 118 => ⟨S1x512x512x128, .f32⟩
  | 119 => ⟨S_, .i32⟩
  | 120 => ⟨S1x512, .i32⟩
  | 121 => ⟨S1x512, .i1⟩
  | 122 => ⟨S1x512x1, .i1⟩
  | 123 => ⟨S1x1x512, .i1⟩
  | 124 => ⟨S1x512x512, .i1⟩
  | 125 => ⟨S1x512x512, .i1⟩
  | 126 => ⟨S1x512x512, .i1⟩
  | _ => ⟨S1x4320x77, .f32⟩

abbrev hbmTy (i : Nat) : BufTy := match i / 128 with
  | 0 => hbmTy0_0 i
  | 1 => hbmTy0_1 i
  | _ => ⟨S1x4320x77, .f32⟩

abbrev bufTy : (tb : Table) → Fin (tcTables nBuf tb) → BufTy
  | .hbm, ⟨i, _⟩ => hbmTy i
  | _, _ => ⟨S1x4320x77, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_call0_v0 : Ref sig .tc := ⟨.hbm, 32, rfl⟩
abbrev main_call0_v1 : Ref sig .tc := ⟨.hbm, 33, rfl⟩
abbrev main_v2 : Ref sig .tc := ⟨.hbm, 34, rfl⟩
abbrev main_c_1 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_call1_call0_c : Ref sig .tc := ⟨.hbm, 46, rfl⟩
abbrev main_call1_call0_v0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_c_2 : Ref sig .tc := ⟨.hbm, 56, rfl⟩
abbrev main_v21 : Ref sig .tc := ⟨.hbm, 57, rfl⟩
abbrev main_c_3 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_4 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_c_5 : Ref sig .tc := ⟨.hbm, 139, rfl⟩
abbrev main_v78 : Ref sig .tc := ⟨.hbm, 140, rfl⟩
abbrev main_v79 : Ref sig .tc := ⟨.hbm, 141, rfl⟩
abbrev main_c_6 : Ref sig .tc := ⟨.hbm, 142, rfl⟩
abbrev main_c_7 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_v80 : Ref sig .tc := ⟨.hbm, 149, rfl⟩
abbrev main_c_8 : Ref sig .tc := ⟨.hbm, 150, rfl⟩
abbrev main_call4_v0 : Ref sig .tc := ⟨.hbm, 151, rfl⟩
abbrev main_call4_v1 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_c_9 : Ref sig .tc := ⟨.hbm, 159, rfl⟩
abbrev main_v87 : Ref sig .tc := ⟨.hbm, 160, rfl⟩
abbrev main_v88 : Ref sig .tc := ⟨.hbm, 161, rfl⟩
abbrev main_c_10 : Ref sig .tc := ⟨.hbm, 162, rfl⟩
abbrev main_c_11 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_v89 : Ref sig .tc := ⟨.hbm, 169, rfl⟩
abbrev main_c_12 : Ref sig .tc := ⟨.hbm, 170, rfl⟩
abbrev main_call6_v0 : Ref sig .tc := ⟨.hbm, 171, rfl⟩
abbrev main_call6_v1 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_c_13 : Ref sig .tc := ⟨.hbm, 179, rfl⟩
abbrev main_v96 : Ref sig .tc := ⟨.hbm, 180, rfl⟩
abbrev main_v97 : Ref sig .tc := ⟨.hbm, 181, rfl⟩
abbrev main_c_14 : Ref sig .tc := ⟨.hbm, 182, rfl⟩
abbrev main_c_15 : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_v98 : Ref sig .tc := ⟨.hbm, 189, rfl⟩
abbrev main_c_16 : Ref sig .tc := ⟨.hbm, 190, rfl⟩
abbrev main_call8_v0 : Ref sig .tc := ⟨.hbm, 191, rfl⟩
abbrev main_call8_v1 : Ref sig .tc := ⟨.hbm, 192, rfl⟩
abbrev main_v99 : Ref sig .tc := ⟨.hbm, 193, rfl⟩
abbrev main_call9_v0 : Ref sig .tc := ⟨.hbm, 194, rfl⟩
abbrev main_call9_v1 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_v100 : Ref sig .tc := ⟨.hbm, 199, rfl⟩
abbrev main_call10_v0 : Ref sig .tc := ⟨.hbm, 200, rfl⟩
abbrev main_call10_v1 : Ref sig .tc := ⟨.hbm, 201, rfl⟩
abbrev main_call10_v2 : Ref sig .tc := ⟨.hbm, 202, rfl⟩
abbrev main_call10_v3 : Ref sig .tc := ⟨.hbm, 203, rfl⟩
abbrev main_call10_v4 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_call11_v0 : Ref sig .tc := ⟨.hbm, 208, rfl⟩
abbrev main_call11_v1 : Ref sig .tc := ⟨.hbm, 209, rfl⟩
abbrev main_call11_v2 : Ref sig .tc := ⟨.hbm, 210, rfl⟩
abbrev main_call11_v3 : Ref sig .tc := ⟨.hbm, 211, rfl⟩
abbrev main_call11_v4 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_c_17 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_cst_18 : Ref sig .tc := ⟨.hbm, 225, rfl⟩
abbrev main_call12_v0 : Ref sig .tc := ⟨.hbm, 226, rfl⟩
abbrev main_call12_v1 : Ref sig .tc := ⟨.hbm, 227, rfl⟩
abbrev main_call12_v2 : Ref sig .tc := ⟨.hbm, 228, rfl⟩
abbrev main_v115 : Ref sig .tc := ⟨.hbm, 229, rfl⟩
abbrev main_v116 : Ref sig .tc := ⟨.hbm, 230, rfl⟩
abbrev main_v117 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_c_19 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_c_20 : Ref sig .tc := ⟨.hbm, 240, rfl⟩
abbrev main_call13_v0 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_c_21 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩

abbrev nD : Nat := 1
abbrev τ : Topo := Topo.v7x

variable {F : FTy → Type} [FloatOps F]
-- ==== Proof.Region.Setup.lean ====
/- The grid points told apart by what the body does there, and the buffers it works on. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body fills its scratch buffers. -/
abbrev firstPt (i : grid0.Coords) : Prop := (Scalar.cmpi .ne (Scalar.extui (Scalar.cmpi .eq (BitVec.ofNat 32 (i 0).val) 0#32)) 0#32) = 1#1
/-- It holds at the first point only. -/
theorem firstPt_iff : ∀ t : Fin cfg0.N, firstPt (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [firstPt, e0]
    word_cmp
   : ∀ t : Fin grid0.N, firstPt (grid0.coords t) ↔ t.val % 16 = 0)

/-- The condition under which the body stores the single representation. -/
abbrev secondPt (i : grid0.Coords) : Prop := k0_cond2 i = 1#1
/-- It holds at the second point only. -/
theorem secondPt_iff : ∀ t : Fin cfg0.N, secondPt (grid0.coords t) ↔ t.val % 16 = 1 :=
  (fun t => by
    have ht : t.val < 16 := Nat.lt_of_lt_of_eq t.isLt N_0
    have e0 : (grid0.coords t 0).val = t.val / 1 % 16 := Pipeline.Grid.coords_val t 0 (by decide) rfl
    simp only [secondPt, k0_cond2, e0]
    word_cmp
   : ∀ t : Fin grid0.N, secondPt (grid0.coords t) ↔ t.val % 16 = 1)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_18 : ∀ t : Fin cfg0.N, cfg0.idle 18 (grid0.coords t) = false := fun _ => rfl
theorem liveAt0_19 : ∀ t : Fin cfg0.N, cfg0.idle 19 (grid0.coords t) = false := fun _ => rfl
theorem liveAt0_20 : ∀ t : Fin cfg0.N, cfg0.idle 20 (grid0.coords t) = false := fun _ => rfl
/-- The pair window is stored at every point. -/
theorem liveAt0_22 : ∀ t : Fin cfg0.N, cfg0.idle 22 (grid0.coords t) = false := fun _ => rfl
/-- The first point stores nothing into window 21, -/
theorem idleAt0_21_A : ∀ t : Fin cfg0.N, firstPt (grid0.coords t) → ¬secondPt (grid0.coords t) → cfg0.idle 21 (grid0.coords t) = true := by decide +kernel
/-- and does not write it back. -/
theorem noFlush0_21_A : ∀ t : Fin cfg0.N, firstPt (grid0.coords t) → ¬secondPt (grid0.coords t) → (cfg0.win 21).flush t = false := by decide +kernel
/-- The points after the second store nothing into window 21, -/
theorem idleAt0_21_B : ∀ t : Fin cfg0.N, ¬firstPt (grid0.coords t) → ¬secondPt (grid0.coords t) → cfg0.idle 21 (grid0.coords t) = true := by decide +kernel
/-- and only the last of them writes it back. -/
theorem noFlush0_21_B : ∀ t : Fin cfg0.N, t.val ≠ 15 → (cfg0.win 21).flush t = false := by decide +kernel
/-- The last point writes window 21 back. -/
theorem flush0_21_last : ∀ t : Fin cfg0.N, t.val = 15 → (cfg0.win 21).flush t = true := by decide +kernel
/-- The second point stores window 21. -/
theorem liveAt0_21_C : ∀ t : Fin cfg0.N, ¬firstPt (grid0.coords t) → secondPt (grid0.coords t) → cfg0.idle 21 (grid0.coords t) = false := by decide +kernel

/-- A buffer of the single block, for reading back what the stores leave. -/
abbrev VO0_21 : View sig .tc .vmem S512x384 .f32 := (Memref.whole cc0_stg21_0 : Memref sig .tc .vmem S512x384 .f32).view
/-- A buffer of the pair block, likewise. -/
abbrev VO0_22 : View sig .tc .vmem S32x512x128 .f32 := (Memref.whole cc0_stg22_0 : Memref sig .tc .vmem S32x512x128 .f32).view
/-- The buffers a point is called with, window by window. -/
abbrev ms0_0 (t : Fin cfg0.N) : Memref sig .tc .vmem S4320x77 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S77x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x33 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S33x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S33x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x8 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S384x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S33x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S384x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S33x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x8 .i32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x512 .i32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S32x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S32x512 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S160x128 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x128 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x384 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S32x512x128 .f32 := win0_22.stage (cfg0.slots t 22)
abbrev hs0_22 (t : Fin cfg0.N) : (ms0_22 t).IsWhole := hstage0_22 ((cfg0.slots t 22).cast nbuf0_22)
/-- The scratch buffers, whole. -/
abbrev scM0_0 : Memref sig .tc .vmem S512x384 .f32 := Memref.whole cc0_scratch0
abbrev scM0_1 : Memref sig .tc .vmem S512x128 .f32 := Memref.whole cc0_scratch1
abbrev VS0_0 : View sig .tc .vmem S512x384 .f32 := scM0_0.view
abbrev VS0_1 : View sig .tc .vmem S512x128 .f32 := scM0_1.view

/-- The region invariant with nothing known of the scratch, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Region

end
-- ==== Proof.Region.RunFirst.lean ====
/- One run of the body, at the first point of the grid. -/
module

public import proofs.«01_k».proof.Proof.Region.Setup

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the first point: the pieces its stores leave in the two outputs and the two scratch buffers,
    with the proof that it runs to any continuation holding them. -/
noncomputable def runFirst (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) :
    Σ' (L21 : List (View.Piece (Elt F) S512x384 .f32)), Σ' (L22 : List (View.Piece (Elt F) S32x512x128 .f32)), Σ' (LS0 : List (View.Piece (Elt F) S512x384 .f32)), { LS1 : List (View.Piece (Elt F) S512x128 .f32) //
      ∀ (xi21 : Vec F S512x384 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare xi21 ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare xi21 ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], ?_, ?_, ?_, fun xi21 E K => ?run⟩
  case run =>
    simp only [cc0__body_eq_skeleton]; unfold cc0__body_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]; · iexists _; iexact HS0
    iexists _; iexact HS1

end Cert.KernelIdeal.Region

end
-- ==== Proof.Region.RunRest.lean ====
/- One run of the body, at the third and later points of the grid. -/
module

public import proofs.«01_k».proof.Proof.Region.RunFirst

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the third and later points: the pieces its stores leave in the two outputs and the two scratch buffers,
    with the proof that it runs to any continuation holding them. -/
noncomputable def runRest (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) :
    Σ' (L21 : List (View.Piece (Elt F) S512x384 .f32)), Σ' (L22 : List (View.Piece (Elt F) S32x512x128 .f32)), Σ' (LS0 : List (View.Piece (Elt F) S512x384 .f32)), { LS1 : List (View.Piece (Elt F) S512x128 .f32) //
      ∀ (xi21 : Vec F S512x384 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare xi21 ∗ (∃ d, owns (c : Thread nD τ) arg23 fullShare d) ∗ owns (c : Thread nD τ) arg24 fullShare xs0 ∗ owns (c : Thread nD τ) arg25 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare xi21 ∗ (∃ f, arg23.view.loc (c : Thread nD τ) ↦[arg23.view.set]{fullShare} arg23.view.writes (Elt F) f L22) ∗ owns (c : Thread nD τ) arg24 fullShare xs0 ∗ owns (c : Thread nD τ) arg25 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨[], ?_, [], [], fun xi21 E K => ?run⟩
  case run =>
    simp only [cc0__body_eq_skeleton]; unfold cc0__body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg24.eq_unread hfs0; obtain rfl := harg25.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]
    · iexists _; isplitr; · ipureintro; exact harg24.read_unread _
      iexact HS0
    iexists _; isplitr; · ipureintro; exact harg25.read_unread _
    iexact HS1

end Cert.KernelIdeal.Region

end
-- ==== Proof.Region.RunSecond.lean ====
/- One run of the body, at the second point of the grid. -/
module

public import proofs.«01_k».proof.Proof.Region.RunRest

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the second point: the pieces its stores leave in the two outputs and the two scratch buffers,
    with the proof that it runs to any continuation holding them. -/
noncomputable def runSecond (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) :
    Σ' (L21 : List (View.Piece (Elt F) S512x384 .f32)), Σ' (L22 : List (View.Piece (Elt F) S32x512x128 .f32)), Σ' (LS0 : List (View.Piece (Elt F) S512x384 .f32)), { LS1 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ owns (c : Thread nD τ) arg24 fullShare xs0 ∗ owns (c : Thread nD τ) arg25 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ owns (c : Thread nD τ) arg24 fullShare xs0 ∗ owns (c : Thread nD τ) arg25 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, [], [], fun E K => ?run⟩
  case run =>
    simp only [cc0__body_eq_skeleton]; unfold cc0__body_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg24.eq_unread hfs0; obtain rfl := harg25.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]; · iexists _; iexact H22
    isplitl [HS0]
    · iexists _; isplitr; · ipureintro; exact harg24.read_unread _
      iexact HS0
    iexists _; isplitr; · ipureintro; exact harg25.read_unread _
    iexact HS1

end Cert.KernelIdeal.Region

end
-- ==== Proof.Region.Outs.lean ====
/- What the body leaves in its buffers, point by point. -/
module

public import proofs.«01_k».proof.Proof.Region.RunSecond
public import Idealize.ShloMosaic.Lib.Claim
public import Idealize.ShloMosaic.Lib.Pipeline.TableIdle

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def outFirst21 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) : Vec F S512x384 .f32 :=
  VO0_21.read (Elt F) (VO0_21.writes (Elt F) VO0_21.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).1)

/-- The stores of each case cover the buffers they go to. -/
theorem covFirst22 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (y : S32x512x128.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.1 S1x512x128.size (by sl_kernel_rfl) y

def outFirst22 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) : Vec F S32x512x128 .f32 :=
  VO0_22.read (Elt F) (VO0_22.writes (Elt F) VO0_22.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.1)

theorem scovFirst0 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (y : S512x384.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.2.1 S512x384.size (by sl_kernel_rfl) y

def scrFirst0 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) : Vec F S512x384 .f32 :=
  VS0_0.read (Elt F) (VS0_0.writes (Elt F) VS0_0.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.2.1)

theorem scovFirst1 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (y : S512x128.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.2.2.1 S512x128.size (by sl_kernel_rfl) y

def scrFirst1 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) : Vec F S512x128 .f32 :=
  VS0_1.read (Elt F) (VS0_1.writes (Elt F) VS0_1.junk (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20).2.2.2.1)

theorem covRest22 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) (y : S32x512x128.Idx) :
    ∃ pc ∈ (runRest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).2.1, y ∈ pc.1.set :=
  View.cover_of_tiledL (runRest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).2.1 S1x512x128.size (by sl_kernel_rfl) y

def outRest22 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) : Vec F S32x512x128 .f32 :=
  VO0_22.read (Elt F) (VO0_22.writes (Elt F) VO0_22.junk (runRest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).2.1)

def scrRest0 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) : Vec F S512x384 .f32 := xs0

def scrRest1 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : ¬secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) : Vec F S512x128 .f32 := xs1

theorem covSecond21 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) (y : S512x384.Idx) :
    ∃ pc ∈ (runSecond c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).1, y ∈ pc.1.set :=
  View.cover_of_tiledL (runSecond c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).1 S512x384.size (by sl_kernel_rfl) y

def outSecond21 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) : Vec F S512x384 .f32 :=
  VO0_21.read (Elt F) (VO0_21.writes (Elt F) VO0_21.junk (runSecond c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).1)

theorem covSecond22 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) (y : S32x512x128.Idx) :
    ∃ pc ∈ (runSecond c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).2.1, y ∈ pc.1.set :=
  View.cover_of_tiledL (runSecond c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).2.1 S1x512x128.size (by sl_kernel_rfl) y

def outSecond22 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) : Vec F S32x512x128 .f32 :=
  VO0_22.read (Elt F) (VO0_22.writes (Elt F) VO0_22.junk (runSecond c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 xs0 xs1).2.1)

def scrSecond0 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) : Vec F S512x384 .f32 := xs0

def scrSecond1 (c : Dev nD) (i : grid0.Coords) (arg1 : Memref sig .tc .vmem S4320x77 .f32) (harg1 : arg1.IsWhole) (arg2 : Memref sig .tc .vmem S77x128 .f32) (harg2 : arg2.IsWhole) (arg3 : Memref sig .tc .vmem S512x1 .f32) (harg3 : arg3.IsWhole) (arg4 : Memref sig .tc .vmem S512x33 .f32) (harg4 : arg4.IsWhole) (arg5 : Memref sig .tc .vmem S128x384 .f32) (harg5 : arg5.IsWhole) (arg6 : Memref sig .tc .vmem S384x384 .f32) (harg6 : arg6.IsWhole) (arg7 : Memref sig .tc .vmem S33x384 .f32) (harg7 : arg7.IsWhole) (arg8 : Memref sig .tc .vmem S512x1 .i32) (harg8 : arg8.IsWhole) (arg9 : Memref sig .tc .vmem S33x384 .f32) (harg9 : arg9.IsWhole) (arg10 : Memref sig .tc .vmem S512x8 .f32) (harg10 : arg10.IsWhole) (arg11 : Memref sig .tc .vmem S8x384 .f32) (harg11 : arg11.IsWhole) (arg12 : Memref sig .tc .vmem S384x128 .f32) (harg12 : arg12.IsWhole) (arg13 : Memref sig .tc .vmem S33x128 .f32) (harg13 : arg13.IsWhole) (arg14 : Memref sig .tc .vmem S384x128 .f32) (harg14 : arg14.IsWhole) (arg15 : Memref sig .tc .vmem S33x128 .f32) (harg15 : arg15.IsWhole) (arg16 : Memref sig .tc .vmem S32x8 .i32) (harg16 : arg16.IsWhole) (arg17 : Memref sig .tc .vmem S8x512 .i32) (harg17 : arg17.IsWhole) (arg18 : Memref sig .tc .vmem S32x512 .f32) (harg18 : arg18.IsWhole) (arg19 : Memref sig .tc .vmem S32x512 .f32) (harg19 : arg19.IsWhole) (arg20 : Memref sig .tc .vmem S160x128 .bf16) (harg20 : arg20.IsWhole) (arg21 : Memref sig .tc .vmem S1x128 .f32) (harg21 : arg21.IsWhole) (arg22 : Memref sig .tc .vmem S512x384 .f32) (harg22 : arg22.IsWhole) (arg23 : Memref sig .tc .vmem S32x512x128 .f32) (harg23 : arg23.IsWhole) (arg24 : Memref sig .tc .vmem S512x384 .f32) (harg24 : arg24.IsWhole) (arg25 : Memref sig .tc .vmem S512x128 .f32) (harg25 : arg25.IsWhole) (hc0 : ¬firstPt i) (hc1 : secondPt i)
    (x0 : Vec F S4320x77 .f32) (x1 : Vec F S77x128 .f32) (x2 : Vec F S512x1 .f32) (x3 : Vec F S512x33 .f32) (x4 : Vec F S128x384 .f32) (x5 : Vec F S384x384 .f32) (x6 : Vec F S33x384 .f32) (x7 : Vec F S512x1 .i32) (x8 : Vec F S33x384 .f32) (x9 : Vec F S512x8 .f32) (x10 : Vec F S8x384 .f32) (x11 : Vec F S384x128 .f32) (x12 : Vec F S33x128 .f32) (x13 : Vec F S384x128 .f32) (x14 : Vec F S33x128 .f32) (x15 : Vec F S32x8 .i32) (x16 : Vec F S8x512 .i32) (x17 : Vec F S32x512 .f32) (x18 : Vec F S32x512 .f32) (x19 : Vec F S160x128 .bf16) (x20 : Vec F S1x128 .f32) (xs0 : Vec F S512x384 .f32) (xs1 : Vec F S512x128 .f32) : Vec F S512x128 .f32 := xs1

/-- What the two outputs and the two scratch buffers hold after each point: after the second point the single
    block and the scratch stay, and the pair block is the point's own. -/
def leftAt (c : Dev nD) : (n : ℕ) → n < cfg0.N → Vec F S512x384 .f32 × Vec F S32x512x128 .f32 × Vec F S512x384 .f32 × Vec F S512x128 .f32
  | 0, hn => (outFirst21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) ((firstPt_iff ⟨0, hn⟩).mpr (Nat.zero_mod _)) (fun h => (fun h => by (try dsimp only at h); omega) ((secondPt_iff ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), outFirst22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) ((firstPt_iff ⟨0, hn⟩).mpr (Nat.zero_mod _)) (fun h => (fun h => by (try dsimp only at h); omega) ((secondPt_iff ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), scrFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) ((firstPt_iff ⟨0, hn⟩).mpr (Nat.zero_mod _)) (fun h => (fun h => by (try dsimp only at h); omega) ((secondPt_iff ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩), scrFirst1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) scM0_0 (Memref.isWhole_whole _) scM0_1 (Memref.isWhole_whole _) ((firstPt_iff ⟨0, hn⟩).mpr (Nat.zero_mod _)) (fun h => (fun h => by (try dsimp only at h); omega) ((secondPt_iff ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩))
  | n + 1, hn =>
    if h0 : (n + 1) % 16 = 0 then
      if h1 : (n + 1) % 16 = 1 then
        False.elim (by have hN : n + 1 < 16 := lt_of_lt_of_eq hn (show cfg0.N = 16 from N_0); omega)
      else
        (outFirst21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) ((firstPt_iff ⟨n + 1, hn⟩).mpr h0) (fun h => h1 ((secondPt_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), outFirst22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) ((firstPt_iff ⟨n + 1, hn⟩).mpr h0) (fun h => h1 ((secondPt_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), scrFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) ((firstPt_iff ⟨n + 1, hn⟩).mpr h0) (fun h => h1 ((secondPt_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩), scrFirst1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) ((firstPt_iff ⟨n + 1, hn⟩).mpr h0) (fun h => h1 ((secondPt_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩))
    else
      if h1 : (n + 1) % 16 = 1 then
        (outSecond21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((firstPt_iff ⟨n + 1, hn⟩).mp h)) ((secondPt_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (leftAt c n (Nat.lt_of_succ_lt hn)).2.2.1 (leftAt c n (Nat.lt_of_succ_lt hn)).2.2.2, outSecond22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((firstPt_iff ⟨n + 1, hn⟩).mp h)) ((secondPt_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (leftAt c n (Nat.lt_of_succ_lt hn)).2.2.1 (leftAt c n (Nat.lt_of_succ_lt hn)).2.2.2, scrSecond0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((firstPt_iff ⟨n + 1, hn⟩).mp h)) ((secondPt_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (leftAt c n (Nat.lt_of_succ_lt hn)).2.2.1 (leftAt c n (Nat.lt_of_succ_lt hn)).2.2.2, scrSecond1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((firstPt_iff ⟨n + 1, hn⟩).mp h)) ((secondPt_iff ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (leftAt c n (Nat.lt_of_succ_lt hn)).2.2.1 (leftAt c n (Nat.lt_of_succ_lt hn)).2.2.2)
      else
        ((leftAt c n (Nat.lt_of_succ_lt hn)).1, outRest22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((firstPt_iff ⟨n + 1, hn⟩).mp h)) (fun h => h1 ((secondPt_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (leftAt c n (Nat.lt_of_succ_lt hn)).2.2.1 (leftAt c n (Nat.lt_of_succ_lt hn)).2.2.2, scrRest0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((firstPt_iff ⟨n + 1, hn⟩).mp h)) (fun h => h1 ((secondPt_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (leftAt c n (Nat.lt_of_succ_lt hn)).2.2.1 (leftAt c n (Nat.lt_of_succ_lt hn)).2.2.2, scrRest1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) scM0_0 (Memref.isWhole_whole _) scM0_1 (Memref.isWhole_whole _) (fun h => h0 ((firstPt_iff ⟨n + 1, hn⟩).mp h)) (fun h => h1 ((secondPt_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (leftAt c n (Nat.lt_of_succ_lt hn)).2.2.1 (leftAt c n (Nat.lt_of_succ_lt hn)).2.2.2)

/-- `leftAt` case by case. -/
theorem leftAt_first (c : Dev nD) (t : Fin cfg0.N) (h0 : t.val % 16 = 0) (h1 : ¬t.val % 16 = 1) :
    leftAt m c t.val t.isLt = (outFirst21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((firstPt_iff t).mpr h0) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), outFirst22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((firstPt_iff t).mpr h0) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), scrFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((firstPt_iff t).mpr h0) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), scrFirst1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) ((firstPt_iff t).mpr h0) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  obtain ⟨n, hn⟩ := t
  cases n with
  | zero => exact rfl
  | succ n => exact (dif_pos h0).trans ((dif_neg h1).trans rfl)

theorem leftAt_rest (c : Dev nD) (t : Fin cfg0.N) (h0 : ¬t.val % 16 = 0) (h1 : ¬t.val % 16 = 1) :
    leftAt m c t.val t.isLt = ((leftAt m c (t.val - 1) (Nat.lt_of_le_of_lt (Nat.sub_le _ _) t.isLt)).1, outRest22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((firstPt_iff t).mp h)) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (leftAt m c (t.val - 1) (Nat.lt_of_le_of_lt (Nat.sub_le _ _) t.isLt)).2.2.1 (leftAt m c (t.val - 1) (Nat.lt_of_le_of_lt (Nat.sub_le _ _) t.isLt)).2.2.2, scrRest0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((firstPt_iff t).mp h)) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (leftAt m c (t.val - 1) (Nat.lt_of_le_of_lt (Nat.sub_le _ _) t.isLt)).2.2.1 (leftAt m c (t.val - 1) (Nat.lt_of_le_of_lt (Nat.sub_le _ _) t.isLt)).2.2.2, scrRest1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((firstPt_iff t).mp h)) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (leftAt m c (t.val - 1) (Nat.lt_of_le_of_lt (Nat.sub_le _ _) t.isLt)).2.2.1 (leftAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem leftAt_second (c : Dev nD) (t : Fin cfg0.N) (h0 : ¬t.val % 16 = 0) (h1 : t.val % 16 = 1) :
    leftAt m c t.val t.isLt = (outSecond21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((firstPt_iff t).mp h)) ((secondPt_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (leftAt m c (t.val - 1) (Nat.lt_of_le_of_lt (Nat.sub_le _ _) t.isLt)).2.2.1 (leftAt m c (t.val - 1) (Nat.lt_of_le_of_lt (Nat.sub_le _ _) t.isLt)).2.2.2, outSecond22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((firstPt_iff t).mp h)) ((secondPt_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (leftAt m c (t.val - 1) (Nat.lt_of_le_of_lt (Nat.sub_le _ _) t.isLt)).2.2.1 (leftAt m c (t.val - 1) (Nat.lt_of_le_of_lt (Nat.sub_le _ _) t.isLt)).2.2.2, scrSecond0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((firstPt_iff t).mp h)) ((secondPt_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (leftAt m c (t.val - 1) (Nat.lt_of_le_of_lt (Nat.sub_le _ _) t.isLt)).2.2.1 (leftAt m c (t.val - 1) (Nat.lt_of_le_of_lt (Nat.sub_le _ _) t.isLt)).2.2.2, scrSecond1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) scM0_0 (Memref.isWhole_whole _) scM0_1 (Memref.isWhole_whole _) (fun h => h0 ((firstPt_iff t).mp h)) ((secondPt_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (leftAt m c (t.val - 1) (Nat.lt_of_le_of_lt (Nat.sub_le _ _) t.isLt)).2.2.1 (leftAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- What the region carries between points: after the first, the scratch buffers at their contents. -/
def carried (c : Dev nD) : (n : ℕ) → n ≤ cfg0.N → sProp 𝕄
  | 0, _ => Pipeline.ΦA spec0 c
  | n + 1, hn => iprop(iprop(owns (c : Thread nD τ) scM0_0 fullShare ((leftAt m c n hn).2.2.1) ∗ owns (c : Thread nD τ) scM0_1 fullShare ((leftAt m c n hn).2.2.2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scM0_0 fullShare ((leftAt m c n hn).2.2.1) ∗ owns (c : Thread nD τ) scM0_1 fullShare ((leftAt m c n hn).2.2.2)) ∗ (∃ r, prngReg c r)) := rfl

theorem carried_pos (c : Dev nD) (n : ℕ) (h : n ≤ cfg0.N) (hz : n ≠ 0) :
    carried m c n h = iprop(iprop(owns (c : Thread nD τ) scM0_0 fullShare ((leftAt m c (n - 1) (by omega)).2.2.1) ∗ owns (c : Thread nD τ) scM0_1 fullShare ((leftAt m c (n - 1) (by omega)).2.2.2)) ∗ (∃ r, prngReg c r)) := by
  cases n with
  | zero => exact absurd rfl hz
  | succ n => rfl

/-- The region's data: each input's buffer holds its block, the outputs what `leftAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (leftAt m c t.val t.isLt).1
    | ⟨22, _⟩ => (leftAt m c t.val t.isLt).2.1
    | ⟨_ + 23, h⟩ => absurd h (Nat.not_lt.2 (Nat.le_add_left _ _))
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; exact Pipeline.Dat.Φ_castSucc (carried m c) t

/-- What each buffer holds after a point, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (leftAt m c t.val t.isLt).1 := by dsimp only [dats]
theorem after0_22 (c : Dev nD) (t : Fin cfg0.N) : (dats m 0 c).after 22 t = (leftAt m c t.val t.isLt).2.1 := by dsimp only [dats]

/-- and an input's before it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

end Cert.KernelIdeal.Region

end
-- ==== Proof.Region.Body.lean ====
/- The body obligation, and the run of the program through the region. -/
module

public import proofs.«01_k».proof.Proof.Region.Outs

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From the second point on, window 21's buffer holds what that point stored: it is fresh only before. -/
theorem fresh21 : ∀ n, n ≤ cfg0.N → cfg0.fresh 21 n = (decide (n < 2) || decide (n = 16)) :=
  Pipeline.Cfg.fresh_tab cfg0 21 (fun n => decide (n < 2) || decide (n = 16)) (by decide) (by decide +kernel)

/-- What the body finds in window 21's buffer after the second point: what the point before left. -/
theorem before21_rest (c : Dev nD) (t : Fin cfg0.N) (h : 2 ≤ t.val) (d) :
    (dats m 0 c).before 21 t d = (dats m 0 c).after 21 ⟨t.val - 1, Nat.lt_of_le_of_lt (Nat.sub_le _ _) t.isLt⟩ := by
  have hN : t.val < 16 := lt_of_lt_of_eq t.isLt (show cfg0.N = 16 from N_0)
  rw [Dat.before_out_traj (dats m 0 c) 21 rfl (fun _ _ => rfl) ?_ t.val t rfl d, fresh21 t.val (Nat.le_of_lt t.isLt), if_neg]
  · simp only [Bool.or_eq_true, decide_eq_true_eq]; omega
  · intro t' ht' hi hf
    have hN' : t'.val < 16 := lt_of_lt_of_eq t'.isLt (show cfg0.N = 16 from N_0)
    rw [fresh21 t'.val (Nat.le_of_lt t'.isLt)] at hf
    simp only [Bool.or_eq_false_iff, decide_eq_false_iff_not] at hf
    rw [after0_21, after0_21, leftAt_rest m c t' (by omega) (by omega)]

/-- After the second point window 21's buffer goes back as found, which at the last point is what is written back. -/
theorem leaves21_rest (c : Dev nD) (t : Fin cfg0.N) (h0 : ¬t.val % 16 = 0) (h1 : ¬t.val % 16 = 1) (d) :
    owns (c : Thread nD τ) (ms0_21 t) fullShare ((dats m 0 c).before 21 t d) ⊢ (dats m 0 c).leavesExact 21 t := by
  have hN : t.val < 16 := lt_of_lt_of_eq t.isLt (show cfg0.N = 16 from N_0)
  have hi := idleAt0_21_B t (fun h => h0 ((firstPt_iff t).mp h)) (fun h => h1 ((secondPt_iff t).mp h))
  by_cases hl : t.val = 15
  · rw [show (dats m 0 c).leavesExact 21 t = owns (c : Thread nD τ) (ms0_21 t) fullShare ((dats m 0 c).after 21 t) from by
      unfold Dat.leavesExact; rw [hi, flush0_21_last t hl],
      before21_rest m c t (by omega) d, after0_21, after0_21, leftAt_rest m c t h0 h1]
  · rw [Dat.leavesExact_idle (dats m 0 c) 21 t hi (noFlush0_21_B t hl)]
    iintro H; iexists d; iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 28800000 in
/-- The body is correct at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl]
  rw [show (dats m 0 c).Φ t.succ = carried m c (t.val + 1) t.isLt from rfl, carried_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 18 t = owns (c : Thread nD τ) (ms0_18 t) fullShare ((dats m 0 c).after 18 t) from by
    unfold Dat.leavesExact; rw [liveAt0_18 t], after0_18]
  rw [show (dats m 0 c).leavesExact 19 t = owns (c : Thread nD τ) (ms0_19 t) fullShare ((dats m 0 c).after 19 t) from by
    unfold Dat.leavesExact; rw [liveAt0_19 t], after0_19]
  rw [show (dats m 0 c).leavesExact 20 t = owns (c : Thread nD τ) (ms0_20 t) fullShare ((dats m 0 c).after 20 t) from by
    unfold Dat.leavesExact; rw [liveAt0_20 t], after0_20]
  rw [show (dats m 0 c).leavesExact 22 t = owns (c : Thread nD τ) (ms0_22 t) fullShare ((dats m 0 c).after 22 t) from by
    unfold Dat.leavesExact; rw [liveAt0_22 t], after0_22]
  by_cases h0 : t.val % 16 = 0
  · by_cases h1 : t.val % 16 = 1
    · exfalso; omega
    · skip
      rw [Dat.leavesExact_idle (dats m 0 c) 21 t (idleAt0_21_A t ((firstPt_iff t).mpr h0) (fun h => h1 ((secondPt_iff t).mp h))) (noFlush0_21_A t ((firstPt_iff t).mpr h0) (fun h => h1 ((secondPt_iff t).mp h)))]
      by_cases hz : t.val = 0
      · rw [carried_castSucc m c t, carried_zero m c _ _ hz, PhiA0_eq]
        rw [leftAt_first m c t h0 h1]
        unfold outFirst22 scrFirst0 scrFirst1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((runFirst c (grid0.coords t) _ _ _ _ _ _ _ _ _ _ _ _ _ _ _ _ _ _ _ _ _ _ _ _ _ _ _ _ _ _ _ _ _ _ _ _ _ _ _ _ _ _ _ _ _ _ _ _ _ _ ((firstPt_iff t).mpr h0) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [HS0]; · iexact HS0
        isplitl [HS1]; · iexact HS1
        iintro ⟨H0, H1, H2, H3, H4, H5, H6, H7, H8, H9, H10, H11, H12, H13, H14, H15, H16, H17, H18, H19, H20, H21, ⟨%e22, H22⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scovFirst0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scovFirst1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        unfold owns; iexists _; isplitr
        swap; · iexact H22
        ipureintro; exact View.read_writes_of_cover _ _ _ _ _ (covFirst22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 16 := lt_of_lt_of_eq t.isLt (show cfg0.N = 16 from N_0); omega
  · by_cases h1 : t.val % 16 = 1
    · skip
      rw [show (dats m 0 c).leavesExact 21 t = owns (c : Thread nD τ) (ms0_21 t) fullShare ((dats m 0 c).after 21 t) from by
      unfold Dat.leavesExact; rw [liveAt0_21_C t (fun h => h0 ((firstPt_iff t).mp h)) ((secondPt_iff t).mpr h1)], after0_21]
      by_cases hz : t.val = 0
      · exfalso; have hN : t.val < 16 := lt_of_lt_of_eq t.isLt (show cfg0.N = 16 from N_0); omega
      · rw [carried_castSucc m c t, carried_pos m c _ _ hz]
        rw [leftAt_second m c t h0 h1]
        unfold outSecond21 outSecond22 scrSecond0 scrSecond1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((runSecond c (grid0.coords t) _ _ _ _ _ _ _ _ _ _ _ _ _ _ _ _ _ _ _ _ _ _ _ _ _ _ _ _ _ _ _ _ _ _ _ _ _ _ _ _ _ _ _ _ _ _ _ _ _ _ (fun h => h0 ((firstPt_iff t).mp h)) ((secondPt_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexists _; iexact H21
        isplitl [H22]; · iexists _; iexact H22
        isplitl [HS0]; · iexact HS0
        isplitl [HS1]; · iexact HS1
        iintro ⟨H0, H1, H2, H3, H4, H5, H6, H7, H8, H9, H10, H11, H12, H13, H14, H15, H16, H17, H18, H19, H20, ⟨%e21, H21⟩, ⟨%e22, H22⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]
        · unfold owns; iexists _; isplitr
          swap; · iexact H21
          ipureintro; exact View.read_writes_of_cover _ _ _ _ _ (covSecond21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H22
        ipureintro; exact View.read_writes_of_cover _ _ _ _ _ (covSecond22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · skip
      skip
      by_cases hz : t.val = 0
      · exfalso; have hN : t.val < 16 := lt_of_lt_of_eq t.isLt (show cfg0.N = 16 from N_0); omega
      · rw [carried_castSucc m c t, carried_pos m c _ _ hz]
        rw [leftAt_rest m c t h0 h1]
        unfold outRest22 scrRest0 scrRest1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
        iapply ((runRest c (grid0.coords t) _ _ _ _ _ _ _ _ _ _ _ _ _ _ _ _ _ _ _ _ _ _ _ _ _ _ _ _ _ _ _ _ _ _ _ _ _ _ _ _ _ _ _ _ _ _ _ _ _ _ (fun h => h0 ((firstPt_iff t).mp h)) (fun h => h1 ((secondPt_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexists _; iexact H22
        isplitl [HS0]; · iexact HS0
        isplitl [HS1]; · iexact HS1
        iintro ⟨H0, H1, H2, H3, H4, H5, H6, H7, H8, H9, H10, H11, H12, H13, H14, H15, H16, H17, H18, H19, H20, H21, ⟨%e22, H22⟩, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iapply (leaves21_rest m c t h0 h1 d21); iexact H21
        unfold owns; iexists _; isplitr
        swap; · iexact H22
        ipureintro; exact View.read_writes_of_cover _ _ _ _ _ (covRest22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = carried m c t.val (Nat.le_of_lt_succ t.isLt) from rfl, carried_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)
set_option backward.isDefEq.respectTransparency.types false in
set_option maxHeartbeats 800000 in
/-- The program's run: the arrays end at the region's data, the host operations after it follow, no semaphore is left raised. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Region

end
-- ==== Proof.Region.Frame.lean ====
/- The run of the region's program changes no argument. -/
module

public import proofs.«01_k».proof.Proof.Region.Body

@[expose] public section

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run leaves the arguments as they were, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

/-- and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0) :=
  θ_run_and (unchanged m ρ) ((θ_run defs _ _).mono (fun _ h => h.2) (run_main_quiescent m ρ))

end Cert.KernelIdeal.Region

end
-- ==== Proof.Values.Blocks.lean ====
/- The blocks the region reads, as rows of the arrays they are cut from. -/
module

public import proofs.«01_k».proof.Proof.Region.Outs
public import Idealize.ShloMosaic.Lib.Pipeline.ValueKit
public import Idealize.ShloMosaic.Lib.Claim

@[expose] public section

set_option maxRecDepth 16384

noncomputable section

namespace Cert.KernelIdeal.Values

open Cert.KernelIdeal Cert.KernelIdeal.Gen Cert.KernelIdeal.Region
open Idealize.ShloMosaic Idealize.ShloMosaic.TcCoe Idealize.SL.Sem
open Idealize.ShloMosaic.Pipeline (Dat)

variable (m : (ℓ : Loc nD τ sig) → Buf (Elt Ideal) ℓ) (c : Dev nD)

/-- Four windows move with the point; the others stay. -/
theorem idx_val : ∀ t : Fin cfg0.N, win0_15.index t = ![t.val, 0] ∧ win0_17.index t = ![t.val, 0] ∧ win0_18.index t = ![t.val, 0]
    ∧ win0_22.index t = ![t.val, 0, 0] :=
  (by decide +kernel : ∀ t : Fin grid0.N, _)

theorem idx_fix : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_16.index t = ![0, 0] ∧ win0_19.index t = ![0, 0] ∧ win0_20.index t = ![0, 0] ∧ win0_21.index t = ![0, 0] :=
  (by decide +kernel : ∀ t : Fin grid0.N, _)

theorem row_lt (t : Fin cfg0.N) (k : Fin 32) : 32 * t.val + (k : ℕ) < 512 := by
  have ht : t.val < 16 := lt_of_lt_of_eq t.isLt N_0
  omega

theorem iblk0 (t : Fin cfg0.N) : iblk m c 0 t = V m c main_v0 := by blk_ext! [iblk, idx_fix t]
theorem iblk1 (t : Fin cfg0.N) : iblk m c 1 t = m ((c : Thread nD τ).loc main_arg16) := by blk_ext! [iblk, V, idx_fix t]
theorem iblk2 (t : Fin cfg0.N) : iblk m c 2 t = V m c main_v5 := by blk_ext! [iblk, idx_fix t]
theorem iblk3 (t : Fin cfg0.N) : iblk m c 3 t = V m c main_v6 := by blk_ext! [iblk, idx_fix t]
theorem iblk4 (t : Fin cfg0.N) : iblk m c 4 t = m ((c : Thread nD τ).loc main_arg18) := by blk_ext! [iblk, V, idx_fix t]
theorem iblk5 (t : Fin cfg0.N) : iblk m c 5 t = V m c main_v13 := by blk_ext! [iblk, idx_fix t]
theorem iblk6 (t : Fin cfg0.N) : iblk m c 6 t = V m c main_v14 := by blk_ext! [iblk, idx_fix t]
theorem iblk7 (t : Fin cfg0.N) : iblk m c 7 t = V m c main_v8 := by blk_ext! [iblk, idx_fix t]
theorem iblk8 (t : Fin cfg0.N) : iblk m c 8 t = m ((c : Thread nD τ).loc main_arg20) := by blk_ext! [iblk, V, idx_fix t]
theorem iblk9 (t : Fin cfg0.N) : iblk m c 9 t = V m c main_v11 := by blk_ext! [iblk, idx_fix t]
theorem iblk10 (t : Fin cfg0.N) : iblk m c 10 t = V m c main_v12 := by blk_ext! [iblk, idx_fix t]
theorem iblk11 (t : Fin cfg0.N) : iblk m c 11 t = V m c main_v15 := by blk_ext! [iblk, idx_fix t]
theorem iblk12 (t : Fin cfg0.N) : iblk m c 12 t = V m c main_v16 := by blk_ext! [iblk, idx_fix t]
theorem iblk13 (t : Fin cfg0.N) : iblk m c 13 t = V m c main_v17 := by blk_ext! [iblk, idx_fix t]
theorem iblk14 (t : Fin cfg0.N) : iblk m c 14 t = V m c main_v18 := by blk_ext! [iblk, idx_fix t]
theorem iblk16 (t : Fin cfg0.N) : iblk m c 16 t = V m c main_v27 := by blk_ext! [iblk, idx_fix t]
theorem iblk19 (t : Fin cfg0.N) : iblk m c 19 t = V m c main_v49 := by blk_ext! [iblk, idx_fix t]
theorem iblk20 (t : Fin cfg0.N) : iblk m c 20 t = m ((c : Thread nD τ).loc main_arg27) := by blk_ext! [iblk, V, idx_fix t]

theorem iblk15 (t : Fin cfg0.N) (k : Fin 32) (o : Fin 8) :
    (iblk m c 15 t : IVec S32x8 32) (ix2 k o) = (V m c main_v26 : IVec S512x8 32) (ix2 ⟨32 * t.val + k, row_lt t k⟩ o) := by
  blk_ext [iblk, idx_val t]
theorem iblk17 (t : Fin cfg0.N) (k : Fin 32) (o : Fin 512) :
    (iblk m c 17 t : FVec Ideal S32x512 .f32) (ix2 k o) = (V m c main_v29 : FVec Ideal S512x512 .f32) (ix2 ⟨32 * t.val + k, row_lt t k⟩ o) := by
  blk_ext [iblk, idx_val t]
theorem iblk18 (t : Fin cfg0.N) (k : Fin 32) (o : Fin 512) :
    (iblk m c 18 t : FVec Ideal S32x512 .f32) (ix2 k o) = (V m c main_v30 : FVec Ideal S512x512 .f32) (ix2 ⟨32 * t.val + k, row_lt t k⟩ o) := by
  blk_ext [iblk, idx_val t]

end Cert.KernelIdeal.Values
-- ==== Proof.Embed.Basic.lean ====
/- The embedder's arithmetic over the extended reals, at coordinates: what both programs compute. -/
module

public import Idealize.ShloMosaic.Lib.Pointwise
public import Idealize.ShloMosaic.Lib.WordCmp
public import Idealize.ShloMosaic.Lib.StableHlo.Predicate

@[expose] public section

noncomputable section

namespace Cert.Embed

open Idealize.ShloMosaic

/-- A bit widened and read as a float is 1 or 0. -/
theorem sitofp_bit (φ : FTy) (b : BitVec 1) :
    FloatOps.sitofp (F := Ideal) φ (BitVec.setWidth 32 b) = if b = 1#1 then (1 : EReal) else 0 := by
  show (((BitVec.setWidth 32 b).toInt : ℝ) : EReal) = _
  rcases (by revert b; decide : b = 0#1 ∨ b = 1#1) with h | h <;> subst h <;> simp

/-- A bit read as a float is 1 or 0. -/
theorem uitofp_bit (φ : FTy) (b : BitVec 1) :
    FloatOps.uitofp (F := Ideal) φ b = if b = 1#1 then (1 : EReal) else 0 := by
  show (((b.toNat : ℕ) : ℝ) : EReal) = _
  rcases (by revert b; decide : b = 0#1 ∨ b = 1#1) with h | h <;> subst h <;> simp

/-- The word of a small natural, read as a float, is that natural. -/
theorem sitofp_ofNat (φ : FTy) {a : ℕ} (ha : a < 2 ^ 31) :
    FloatOps.sitofp (F := Ideal) φ (BitVec.ofNat 32 a) = ((a : ℕ) : EReal) := by
  show (((BitVec.ofNat 32 a).toInt : ℝ) : EReal) = _
  have : (BitVec.ofNat 32 a).toInt = (a : ℤ) := by
    rw [BitVec.toInt_eq_toNat_cond, BitVec.toNat_ofNat, Nat.mod_eq_of_lt (by omega), if_pos (by omega)]
  rw [this]; simp

theorem ofBool_eq_one (b : Bool) : BitVec.ofBool b = 1#1 ↔ b = true := by cases b <;> decide

theorem andi_eq_one (a b : BitVec 1) : IntOp.andi a b = 1#1 ↔ a = 1#1 ∧ b = 1#1 := by
  revert a b; decide

theorem bit_ite_mul (p : Prop) [Decidable p] (x : EReal) : (if p then (1 : EReal) else 0) * x = if p then x else 0 := by
  split <;> simp

/-- A sum with one term that may differ from zero. -/
theorem sum_one_hot {n : ℕ} (k : Fin n) (f : Fin n → EReal) (p : Fin n → Prop) [DecidablePred p] (hp : ∀ i, p i ↔ i = k) :
    (∑ i, if p i then f i else 0) = f k := by
  rw [Finset.sum_eq_single k]
  · rw [if_pos ((hp k).2 rfl)]
  · intro b _ hb; rw [if_neg fun h => hb ((hp b).1 h)]
  · intro h; exact absurd (Finset.mem_univ k) h

/-- The number of atoms of the tokens up to and with `t`. -/
def ends (n : Fin 512 → ℕ) (t : Fin 512) : ℕ := ∑ u : Fin 512, if u ≤ t then n u else 0

/-- The atoms' embedding. -/
def atom (ai : Fin 4320 → Fin 77 → EReal) (wa : Fin 77 → Fin 128 → EReal) (a : Fin 4320) (d : Fin 128) : EReal :=
  ∑ k, ai a k * wa k d

/-- The mean over a token's atoms. -/
def pooled (n : Fin 512 → ℕ) (at' : Fin 4320 → Fin 128 → EReal) (t : Fin 512) (d : Fin 128) : EReal :=
  Ideal.div (∑ a : Fin 4320, if ends n t ≤ a.val + n t ∧ a.val < ends n t then at' a d else 0) (max ((n t : ℕ) : EReal) 1)

/-- A token's features. -/
def token (n : Fin 512 → ℕ) (at' : Fin 4320 → Fin 128 → EReal) (wt : Fin 128 → Fin 384 → EReal) (t : Fin 512) (e : Fin 384) : EReal :=
  ∑ d, pooled n at' t d * wt d e

/-- The product of a token's features and its additional features with a weight of two stacked pieces. -/
def proj {o : ℕ} (tok : Fin 512 → Fin 384 → EReal) (atf : Fin 512 → Fin 33 → EReal) (wA : Fin 384 → Fin o → EReal)
    (wB : Fin 33 → Fin o → EReal) (t : Fin 512) (j : Fin o) : EReal :=
  (∑ e, tok t e * wA e j) + ∑ l, atf t l * wB l j

theorem natCast_sub_le (A B a : ℕ) : ((A : ℕ) : EReal) - ((B : ℕ) : EReal) ≤ ((a : ℕ) : EReal) ↔ A ≤ a + B := by
  have h1 : ((A : ℕ) : EReal) - ((B : ℕ) : EReal) = (((A : ℝ) - (B : ℝ) : ℝ) : EReal) := by
    rw [EReal.coe_sub]; rfl
  have h2 : ((a : ℕ) : EReal) = ((a : ℝ) : EReal) := rfl
  rw [h1, h2, EReal.coe_le_coe_iff, sub_le_iff_le_add]
  exact_mod_cast Iff.rfl

theorem natCast_lt (a A : ℕ) : ((a : ℕ) : EReal) < ((A : ℕ) : EReal) ↔ a < A := by
  exact_mod_cast Iff.rfl

theorem ends_cast (n : Fin 512 → ℕ) (t : Fin 512) :
    (∑ u : Fin 512, if u ≤ t then ((n u : ℕ) : EReal) else 0) = ((ends n t : ℕ) : EReal) := by
  unfold ends
  rw [Nat.cast_sum]
  exact Finset.sum_congr rfl fun u _ => by split <;> simp

end Cert.Embed
end
-- ==== Proof.Embed.Rows.lean ====
/- The product of one row of a tile's stacked one-hot columns with the stacked weights, over the extended reals. -/
module

public import proofs.«01_k».proof.Proof.Embed.Basic

@[expose] public section

noncomputable section

namespace Cert.Embed

open Idealize.ShloMosaic

/-- The clipped distance of two coordinates, or the word past the last one. -/
def dist (same : BitVec 1) (a b s hi out : BitVec 32) : BitVec 32 :=
  Scalar.select same (IntOp.minsi hi (IntOp.maxsi 0#32 (IntOp.addi (IntOp.subi a b) s))) out

/-- The relative-position embedding of a pair: the two clipped distances, the entity bit and the chain distance
    select rows of the weights `wr`. -/
def relpos (dr dt dc : BitVec 32) (ent : BitVec 1) (wr : Fin 139 → EReal) : EReal :=
  (((∑ c : Fin 66, if BitVec.ofNat 32 c.val = dr then wr ⟨c.val, by omega⟩ else 0)
    + ∑ c : Fin 66, if BitVec.ofNat 32 c.val = dt then wr ⟨66 + c.val, by omega⟩ else 0)
    + (if ent = 1#1 then wr ⟨132, by omega⟩ else 0))
    + ∑ c : Fin 6, if BitVec.ofNat 32 c.val = dc then wr ⟨133 + c.val, by omega⟩ else 0

/-- A distance, or no distance where a member of the pair is not a chained biomolecule. -/
def gated (bio : BitVec 1) (d : BitVec 32) : BitVec 32 := Scalar.select bio d 4294967295#32

/-- Entry `c` of the stacked column of a pair, row `k` of the tile. -/
def column (bio ent : BitVec 1) (dr dt dc : BitVec 32) (tb : EReal) (k c : ℕ) : EReal :=
  if c < 72 then (if BitVec.ofNat 32 c = gated bio dr then 1 else 0)
  else if c - 72 < 72 then (if BitVec.ofNat 32 (c - 72) = gated bio dt then 1 else 0)
  else if c - 72 - 72 < 8 then
    (if BitVec.ofNat 32 (c - 72 - 72) = 0#32 then 1 else 0) * (if IntOp.andi ent bio = 1#1 then 1 else 0)
  else if c - 72 - 72 - 8 < 8 then (if BitVec.ofNat 32 (c - 72 - 72 - 8) = gated bio dc then 1 else 0)
  else if c - 72 - 72 - 8 - 8 < 32 then (if BitVec.ofNat 32 (c - 72 - 72 - 8 - 8) = BitVec.ofNat 32 k then 1 else 0)
  else if c - 72 - 72 - 8 - 8 - 32 < 1 then tb else 0

theorem sum_200 (f : Fin 200 → EReal) :
    (∑ c, f c) = (∑ c : Fin 72, f ⟨c.val, by omega⟩) + ((∑ c : Fin 72, f ⟨72 + c.val, by omega⟩)
      + ((∑ c : Fin 8, f ⟨144 + c.val, by omega⟩) + ((∑ c : Fin 8, f ⟨152 + c.val, by omega⟩)
        + ((∑ c : Fin 32, f ⟨160 + c.val, by omega⟩) + ∑ c : Fin 8, f ⟨192 + c.val, by omega⟩)))) := by
  rw [show (∑ c, f c) = ∑ c : Fin (72 + 128), f c from rfl, Fin.sum_univ_add]
  refine congrArg₂ (· + ·) rfl ?_
  rw [show (∑ c : Fin 128, f (Fin.natAdd 72 c)) = ∑ c : Fin (72 + 56), f (Fin.natAdd 72 c) from rfl, Fin.sum_univ_add]
  refine congrArg₂ (· + ·) rfl ?_
  rw [show (∑ c : Fin 56, f (Fin.natAdd 72 (Fin.natAdd 72 c))) = ∑ c : Fin (8 + 48), f (Fin.natAdd 72 (Fin.natAdd 72 c)) from rfl, Fin.sum_univ_add]
  refine congrArg₂ (· + ·) ?_ ?_
  · exact Finset.sum_congr rfl fun c _ => congrArg f (Fin.ext (by simp; omega))
  rw [show (∑ c : Fin 48, f (Fin.natAdd 72 (Fin.natAdd 72 (Fin.natAdd 8 c)))) = ∑ c : Fin (8 + 40), f (Fin.natAdd 72 (Fin.natAdd 72 (Fin.natAdd 8 c))) from rfl, Fin.sum_univ_add]
  refine congrArg₂ (· + ·) ?_ ?_
  · exact Finset.sum_congr rfl fun c _ => congrArg f (Fin.ext (by simp; omega))
  rw [show (∑ c : Fin 40, f (Fin.natAdd 72 (Fin.natAdd 72 (Fin.natAdd 8 (Fin.natAdd 8 c))))) = ∑ c : Fin (32 + 8), f (Fin.natAdd 72 (Fin.natAdd 72 (Fin.natAdd 8 (Fin.natAdd 8 c)))) from rfl, Fin.sum_univ_add]
  refine congrArg₂ (· + ·) ?_ ?_
  · exact Finset.sum_congr rfl fun c _ => congrArg f (Fin.ext (by simp; omega))
  · exact Finset.sum_congr rfl fun c _ => congrArg f (Fin.ext (by simp; omega))

/-- A sum whose terms are zero from `m` on. -/
theorem sum_cut {m l : ℕ} (f : Fin (m + l) → EReal) (h : ∀ c : Fin l, f (Fin.natAdd m c) = 0) :
    (∑ c, f c) = ∑ c : Fin m, f (Fin.castAdd l c) := by
  rw [Fin.sum_univ_add, Finset.sum_eq_zero (fun c _ => h c), add_zero]

theorem gated_ne (d : BitVec 32) {c : ℕ} (hc : c < 72) : ¬ BitVec.ofNat 32 c = gated 0#1 d := by
  have : gated 0#1 d = 4294967295#32 := rfl
  rw [this]
  intro h
  have h' := congrArg BitVec.toNat h
  rw [BitVec.toNat_ofNat, BitVec.toNat_ofNat] at h'
  omega

theorem ofNat_inj_small {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat] at h'
    omega
  · intro h; rw [h]

theorem bit_cases (b : BitVec 1) : b = 0#1 ∨ b = 1#1 := by revert b; decide

/-- The stacked column times the stacked weights: the relative-position embedding where both are chained
    biomolecules, the row part of the pair embedding, and the bond's weight times the bond. -/
theorem row_sum (bio ent : BitVec 1) (dr dt dc : BitVec 32) (tb : EReal) (k : Fin 32) (W : Fin 200 → EReal)
    (wr : Fin 139 → EReal) (P : Fin 32 → EReal) (B : EReal)
    (h1 : ∀ c : Fin 66, W ⟨c.val, by omega⟩ = wr ⟨c.val, by omega⟩) (h1z : ∀ c : Fin 6, W ⟨66 + c.val, by omega⟩ = 0)
    (h2 : ∀ c : Fin 66, W ⟨72 + c.val, by omega⟩ = wr ⟨66 + c.val, by omega⟩) (h2z : ∀ c : Fin 6, W ⟨138 + c.val, by omega⟩ = 0)
    (h3 : W ⟨144, by omega⟩ = wr ⟨132, by omega⟩)
    (h4 : ∀ c : Fin 6, W ⟨152 + c.val, by omega⟩ = wr ⟨133 + c.val, by omega⟩) (h4z : ∀ c : Fin 2, W ⟨158 + c.val, by omega⟩ = 0)
    (h5 : ∀ c : Fin 32, W ⟨160 + c.val, by omega⟩ = P c) (h6 : W ⟨192, by omega⟩ = B) :
    (∑ c : Fin 200, column bio ent dr dt dc tb k.val c.val * W c)
      = ((if bio = 1#1 then relpos dr dt dc ent wr else 0) + P k) + tb * B := by
  have e1 : (∑ c : Fin 72, column bio ent dr dt dc tb k.val c.val * W ⟨c.val, by omega⟩)
      = ∑ c : Fin 66, if BitVec.ofNat 32 c.val = gated bio dr then wr ⟨c.val, by omega⟩ else 0 := by
    rw [show (∑ c : Fin 72, column bio ent dr dt dc tb k.val c.val * W ⟨c.val, by omega⟩)
      = ∑ c : Fin (66 + 6), column bio ent dr dt dc tb k.val c.val * W ⟨c.val, by omega⟩ from rfl, sum_cut]
    · refine Finset.sum_congr rfl fun c _ => ?_
      have hc := c.isLt
      simp only [Fin.val_castAdd, column]
      rw [if_pos (by omega), bit_ite_mul, h1]
    · intro c
      simp only [Fin.val_natAdd]
      rw [h1z, mul_zero]
  have e2 : (∑ c : Fin 72, column bio ent dr dt dc tb k.val (72 + c.val) * W ⟨72 + c.val, by omega⟩)
      = ∑ c : Fin 66, if BitVec.ofNat 32 c.val = gated bio dt then wr ⟨66 + c.val, by omega⟩ else 0 := by
    rw [show (∑ c : Fin 72, column bio ent dr dt dc tb k.val (72 + c.val) * W ⟨72 + c.val, by omega⟩)
      = ∑ c : Fin (66 + 6), column bio ent dr dt dc tb k.val (72 + c.val) * W ⟨72 + c.val, by omega⟩ from rfl, sum_cut]
    · refine Finset.sum_congr rfl fun c _ => ?_
      have hc := c.isLt
      simp only [Fin.val_castAdd, column]
      rw [if_neg (by omega), if_pos (by omega), bit_ite_mul, h2]
      exact if_congr (by rw [show 72 + c.val - 72 = c.val by omega]) rfl rfl
    · intro c
      have := h2z c
      simp only [Fin.val_natAdd]
      rw [show W ⟨72 + (66 + c.val), by omega⟩ = W ⟨138 + c.val, by omega⟩ from congrArg W (Fin.ext (by simp; omega)), this, mul_zero]
  have e3 : (∑ c : Fin 8, column bio ent dr dt dc tb k.val (144 + c.val) * W ⟨144 + c.val, by omega⟩)
      = if IntOp.andi ent bio = 1#1 then wr ⟨132, by omega⟩ else 0 := by
    rw [Finset.sum_eq_single (0 : Fin 8)]
    · show column bio ent dr dt dc tb k.val 144 * W ⟨144, by omega⟩ = _
      unfold column
      rw [if_neg (by omega), if_neg (by omega), if_pos (by omega), if_pos rfl, one_mul, bit_ite_mul, h3]
    · intro c _ hc
      have hc' := c.isLt
      have hne : c.val ≠ 0 := fun h => hc (Fin.ext h)
      unfold column
      rw [if_neg (by omega), if_neg (by omega), if_pos (by omega), if_neg, zero_mul, zero_mul]
      rw [show (0#32) = BitVec.ofNat 32 0 from rfl, ofNat_inj_small (by omega) (by omega)]
      omega
    · intro h; exact absurd (Finset.mem_univ _) h
  have e4 : (∑ c : Fin 8, column bio ent dr dt dc tb k.val (152 + c.val) * W ⟨152 + c.val, by omega⟩)
      = ∑ c : Fin 6, if BitVec.ofNat 32 c.val = gated bio dc then wr ⟨133 + c.val, by omega⟩ else 0 := by
    rw [show (∑ c : Fin 8, column bio ent dr dt dc tb k.val (152 + c.val) * W ⟨152 + c.val, by omega⟩)
      = ∑ c : Fin (6 + 2), column bio ent dr dt dc tb k.val (152 + c.val) * W ⟨152 + c.val, by omega⟩ from rfl, sum_cut]
    · refine Finset.sum_congr rfl fun c _ => ?_
      have hc := c.isLt
      simp only [Fin.val_castAdd, column]
      rw [if_neg (by omega), if_neg (by omega), if_neg (by omega), if_pos (by omega), bit_ite_mul, h4]
      exact if_congr (by rw [show 152 + c.val - 72 - 72 - 8 = c.val by omega]) rfl rfl
    · intro c
      have := h4z c
      simp only [Fin.val_natAdd]
      rw [show W ⟨152 + (6 + c.val), by omega⟩ = W ⟨158 + c.val, by omega⟩ from congrArg W (Fin.ext (by simp; omega)), this, mul_zero]
  have e5 : (∑ c : Fin 32, column bio ent dr dt dc tb k.val (160 + c.val) * W ⟨160 + c.val, by omega⟩) = P k := by
    rw [← sum_one_hot k P (fun c => c = k) (fun i => Iff.rfl)]
    refine Finset.sum_congr rfl fun c _ => ?_
    have hc := c.isLt
    have hk := k.isLt
    unfold column
    rw [if_neg (by omega), if_neg (by omega), if_neg (by omega), if_neg (by omega), if_pos (by omega), bit_ite_mul, h5]
    refine if_congr ?_ rfl rfl
    rw [ofNat_inj_small (by omega) (by omega), Fin.ext_iff]
    omega
  have e6 : (∑ c : Fin 8, column bio ent dr dt dc tb k.val (192 + c.val) * W ⟨192 + c.val, by omega⟩) = tb * B := by
    rw [Finset.sum_eq_single (0 : Fin 8)]
    · show column bio ent dr dt dc tb k.val 192 * W ⟨192, by omega⟩ = _
      unfold column
      rw [if_neg (by omega), if_neg (by omega), if_neg (by omega), if_neg (by omega), if_neg (by omega), if_pos (by omega), h6]
    · intro c _ hc
      have hc' := c.isLt
      have hne : c.val ≠ 0 := fun h => hc (Fin.ext h)
      unfold column
      rw [if_neg (by omega), if_neg (by omega), if_neg (by omega), if_neg (by omega), if_neg (by omega), if_neg (by omega), zero_mul]
    · intro h; exact absurd (Finset.mem_univ _) h
  rw [sum_200, e1, e2, e3, e4, e5, e6]
  rcases bit_cases bio with h | h <;> subst h
  · rw [Finset.sum_eq_zero, Finset.sum_eq_zero, if_neg, Finset.sum_eq_zero, if_neg (by decide)]
    · simp
    · intro c _; exact if_neg (gated_ne dc (by omega))
    · rw [andi_eq_one]; rintro ⟨_, h⟩; exact absurd h (by decide)
    · intro c _; exact if_neg (gated_ne dt (by omega))
    · intro c _; exact if_neg (gated_ne dr (by omega))
  · rw [if_pos rfl]
    unfold relpos
    have g : ∀ d, gated 1#1 d = d := fun d => rfl
    have a : (IntOp.andi ent 1#1 = 1#1) = (ent = 1#1) := propext (by rw [andi_eq_one]; simp)
    simp only [g, a, add_assoc]

end Cert.Embed
end
-- ==== Proof.Embed.KernelPair.lean ====
/- What the kernel stores of the pair embedding, read at an index. -/
module

public import proofs.«01_k».proof.Proof.Gen.KernelIdeal.Skeleton
public import proofs.«01_k».proof.Proof.Embed.Rows

@[expose] public section

set_option maxRecDepth 16384

noncomputable section

namespace Cert.Embed

open Idealize.ShloMosaic Idealize.ShloMosaic.TcCoe Idealize.SL.Sem
open Cert.KernelIdeal Cert.KernelIdeal.Gen

/-- The stacked one-hot columns of a tile, transposed. -/
def onehots (st : BitVec 32) (mi : IVec S32x8 32) (mj : IVec S8x512 32) (tb tbT : FVec Ideal S32x512 .f32) : FVec Ideal S32x200x512 .bf16 :=
  k0_pay25 (F := Ideal) st
    (k0_pay21 (k0_pay12 (F := Ideal) mi) (k0_pay13 (F := Ideal) mi) (k0_pay14 (F := Ideal) mj) (k0_pay15 (F := Ideal) mj) (k0_pay17 (F := Ideal) mi mj))
    (k0_pay22 (k0_pay13 (F := Ideal) mi) (k0_pay15 (F := Ideal) mj) (k0_pay17 (F := Ideal) mi mj)) (iota .tc S32x8x512 32 [1] iota_S32x8x512_d1_w32)
    (k0_pay23 (F := Ideal) (k0_pay13 (F := Ideal) mi) (k0_pay15 (F := Ideal) mj) (k0_pay18 (F := Ideal) mi mj))
    (k0_pay24 (k0_pay13 (F := Ideal) mi) (k0_pay15 (F := Ideal) mj) (k0_pay16 (F := Ideal) mi mj) (k0_pay19 (F := Ideal) mi mj)) tb tbT

theorem sitofp_select (φ : FTy) (b : BitVec 1) :
    FloatOps.sitofp (F := Ideal) φ (Scalar.select b 1#32 0#32) = if b = 1#1 then (1 : EReal) else 0 := by
  show (((Scalar.select b 1#32 0#32 : BitVec 32).toInt : ℝ) : EReal) = _
  rcases (by revert b; decide : b = 0#1 ∨ b = 1#1) with h | h <;> subst h <;> simp [Scalar.select]

/-- Are both chained biomolecules. -/
def both (a b : BitVec 32) : BitVec 1 := IntOp.andi (IntOp.cmpi .sgt a 0#32) (IntOp.cmpi .sgt b 0#32)

set_option maxHeartbeats 1000000 in
theorem onehots_at (st : BitVec 32) (mi : IVec S32x8 32) (mj : IVec S8x512 32) (tb tbT : FVec Ideal S32x512 .f32) (k : Fin 32) (c : Fin 200) (j : Fin 512) :
    onehots st mi mj tb tbT (ix3 k c j)
      = column (both (mi (ix2 k 5)) (mj (ix2 5 j))) (IntOp.cmpi .eq (mi (ix2 k 3)) (mj (ix2 3 j)))
          (dist (IntOp.cmpi .eq (mi (ix2 k 2)) (mj (ix2 2 j))) (mi (ix2 k 0)) (mj (ix2 0 j)) 32#32 64#32 65#32)
          (dist (IntOp.cmpi .eq (mi (ix2 k 2)) (mj (ix2 2 j))) (mi (ix2 k 1)) (mj (ix2 1 j)) 32#32 64#32 65#32)
          (dist (IntOp.cmpi .eq (mi (ix2 k 3)) (mj (ix2 3 j))) (mi (ix2 k 4)) (mj (ix2 4 j)) 2#32 4#32 5#32)
          (Scalar.select (IntOp.cmpi .eq (BitVec.ofNat 32 j.val) (IntOp.addi (Scalar.muli st 32#32) (BitVec.ofNat 32 k.val))) 0
            (max (tb (ix2 k j)) (tbT (ix2 k j)))) k.val c.val := by
  pointwise [onehots, k0_pay10, k0_pay11, k0_pay12, k0_pay13, k0_pay14, k0_pay15, k0_pay16, k0_pay17, k0_pay18, k0_pay19, k0_pay20, k0_pay21, k0_pay22, k0_pay23, k0_pay24, k0_pay25]
  simp only [sitofp_bit, sitofp_select, StableHlo.Predicate.cmpi_eq_iff, dite_eq_ite]
  rfl

/-- The stacked weights of a tile. -/
theorem weights_at (tk : FVec Ideal S32x384 .f32) (wA : FVec Ideal S384x128 .f32) (atf : FVec Ideal S32x33 .f32) (wB : FVec Ideal S33x128 .f32)
    (wbig : FVec Ideal S160x128 .bf16) (wb : FVec Ideal S1x128 .f32) (c : Fin 200) (o : Fin 128) :
    k0_pay27 (F := Ideal) tk (k0_pay26 wA) (constant S32x128 .f32 0x00000000#32) atf wB wbig wb (ix2 c o)
      = if h : c.val < 160 then wbig (ix2 ⟨c.val, h⟩ o)
        else if h : c.val - 160 < 32 then
          (∑ e : Fin 384, tk (ix2 ⟨c.val - 160, h⟩ e) * wA (ix2 e o)) + ∑ l : Fin 33, atf (ix2 ⟨c.val - 160, h⟩ l) * wB (ix2 l o)
        else if h : c.val - 160 - 32 < 1 then wb (ix2 ⟨c.val - 160 - 32, h⟩ o) else 0 := by
  pointwise [k0_pay27, k0_pay26]

end Cert.Embed
end
-- ==== Proof.Values.Scratch.lean ====
/- What the scratch buffers hold after every point: the token features and their second projection. -/
module

public import proofs.«01_k».proof.Proof.Values.Blocks
public import proofs.«01_k».proof.Proof.Embed.KernelPair
public import Idealize.ShloMosaic.Lib.Pipeline.ValueKit
public import Idealize.ShloMosaic.Lib.Claim

@[expose] public section

set_option maxRecDepth 16384

noncomputable section

namespace Cert.KernelIdeal.Values

open Cert.KernelIdeal Cert.KernelIdeal.Gen Cert.KernelIdeal.Region
open Idealize.ShloMosaic Idealize.ShloMosaic.TcCoe Idealize.SL.Sem
open Idealize.ShloMosaic.Pipeline (Dat)

variable (m : (ℓ : Loc nD τ sig) → Buf (Elt Ideal) ℓ) (c : Dev nD)

/-- The token features. -/
def tokens : FVec Ideal S512x384 .f32 :=
  k0_pay6 (F := Ideal) (V m c main_v0) (m ((c : Thread nD τ).loc main_arg16)) (V m c main_v5) (m ((c : Thread nD τ).loc main_arg18))

/-- The second projection. -/
def cols : FVec Ideal S512x128 .f32 :=
  k0_pay8 (F := Ideal) (k0_pay7 (F := Ideal) (V m c main_v0) (m ((c : Thread nD τ).loc main_arg16)) (V m c main_v5) (m ((c : Thread nD τ).loc main_arg18)) (V m c main_v17))
    (V m c main_v6) (V m c main_v18)

theorem tokens_first (t : Fin cfg0.N) (h0 : t.val % 16 = 0) (h1 : ¬t.val % 16 = 1) :
    (leftAt m c t.val t.isLt).2.2.1 = tokens m c := by
  rw [leftAt_first m c t h0 h1]
  frame_out
  unfold tokens
  rw [iblk0, iblk1, iblk2, iblk4]

theorem cols_first (t : Fin cfg0.N) (h0 : t.val % 16 = 0) (h1 : ¬t.val % 16 = 1) :
    (leftAt m c t.val t.isLt).2.2.2 = cols m c := by
  rw [leftAt_first m c t h0 h1]
  frame_out
  unfold cols
  rw [iblk0, iblk1, iblk2, iblk3, iblk4, iblk13, iblk14]

theorem scratch_at (n : ℕ) (hn : n < cfg0.N) :
    (leftAt m c n hn).2.2.1 = tokens m c ∧ (leftAt m c n hn).2.2.2 = cols m c := by
  induction n with
  | zero =>
    exact ⟨tokens_first m c ⟨0, hn⟩ (Nat.zero_mod 16) (by rw [Nat.zero_mod]; decide), cols_first m c ⟨0, hn⟩ (Nat.zero_mod 16) (by rw [Nat.zero_mod]; decide)⟩
  | succ n ih =>
    have hN : n + 1 < 16 := lt_of_lt_of_eq hn N_0
    have h0 : ¬(n + 1) % 16 = 0 := by omega
    by_cases h1 : (n + 1) % 16 = 1
    · have e := leftAt_second m c ⟨n + 1, hn⟩ h0 h1
      have e0 := congrArg (fun x => x.2.2.1) e
      have e1 := congrArg (fun x => x.2.2.2) e
      dsimp only [scrSecond0, scrSecond1] at e0 e1
      exact ⟨e0.trans (ih _).1, e1.trans (ih _).2⟩
    · have e := leftAt_rest m c ⟨n + 1, hn⟩ h0 h1
      have e0 := congrArg (fun x => x.2.2.1) e
      have e1 := congrArg (fun x => x.2.2.2) e
      dsimp only [scrRest0, scrRest1] at e0 e1
      exact ⟨e0.trans (ih _).1, e1.trans (ih _).2⟩

end Cert.KernelIdeal.Values
-- ==== Proof.Values.RowStores.lean ====
/- Each row store as one and the same contraction. -/
module

public import proofs.«01_k».proof.Proof.Gen.KernelIdeal.Skeleton
public import Idealize.ShloMosaic.Lib.Pipeline.ValueKit

@[expose] public section

set_option maxRecDepth 16384

noncomputable section

namespace Cert.KernelIdeal.Values

open Cert.KernelIdeal Cert.KernelIdeal.Gen
open Idealize.ShloMosaic Idealize.ShloMosaic.TcCoe Idealize.SL.Sem

/-- Row `q` of a point's block: the one-hot columns against the stacked weights, plus the second projection. -/
def rowAt (q : Fin 32) (oh : FVec Ideal S32x200x512 .bf16) (P : FVec Ideal S512x128 .f32) (W : FVec Ideal S200x128 .bf16) : FVec Ideal S1x512x128 .f32 :=
  fun i => (∑ x : Fin 200, oh (ix3 q x (i 1)) * W (ix2 x (i 2))) + P (ix2 (i 1) (i 2))

variable (oh : FVec Ideal S32x200x512 .bf16) (P : FVec Ideal S512x128 .f32)

theorem row_pay28 (tk : FVec Ideal S32x384 .f32) (wA : FVec Ideal S384x128 .f32) (z : FVec Ideal S32x128 .f32) (atf : FVec Ideal S32x33 .f32) (wB : FVec Ideal S33x128 .f32)
    (wbig : FVec Ideal S160x128 .bf16) (wb : FVec Ideal S1x128 .f32) :
    k0_pay28 (F := Ideal) oh P tk wA z atf wB wbig wb = rowAt 0 oh P (k0_pay27 (F := Ideal) tk wA z atf wB wbig wb) := by
  funext i
  unfold k0_pay28 rowAt
  generalize k0_pay27 (F := Ideal) tk wA z atf wB wbig wb = W
  pointwise

theorem row_pay29 (tk : FVec Ideal S32x384 .f32) (wA : FVec Ideal S384x128 .f32) (z : FVec Ideal S32x128 .f32) (atf : FVec Ideal S32x33 .f32) (wB : FVec Ideal S33x128 .f32)
    (wbig : FVec Ideal S160x128 .bf16) (wb : FVec Ideal S1x128 .f32) :
    k0_pay29 (F := Ideal) oh P tk wA z atf wB wbig wb = rowAt 1 oh P (k0_pay27 (F := Ideal) tk wA z atf wB wbig wb) := by
  funext i
  unfold k0_pay29 rowAt
  generalize k0_pay27 (F := Ideal) tk wA z atf wB wbig wb = W
  pointwise

theorem row_pay30 (tk : FVec Ideal S32x384 .f32) (wA : FVec Ideal S384x128 .f32) (z : FVec Ideal S32x128 .f32) (atf : FVec Ideal S32x33 .f32) (wB : FVec Ideal S33x128 .f32)
    (wbig : FVec Ideal S160x128 .bf16) (wb : FVec Ideal S1x128 .f32) :
    k0_pay30 (F := Ideal) oh P tk wA z atf wB wbig wb = rowAt 2 oh P (k0_pay27 (F := Ideal) tk wA z atf wB wbig wb) := by
  funext i
  unfold k0_pay30 rowAt
  generalize k0_pay27 (F := Ideal) tk wA z atf wB wbig wb = W
  pointwise

theorem row_pay31 (W : FVec Ideal S200x128 .bf16) : k0_pay31 (F := Ideal) oh P W = rowAt 3 oh P W := by
  funext i
  unfold rowAt
  pointwise [k0_pay31]

theorem row_pay32 (W : FVec Ideal S200x128 .bf16) : k0_pay32 (F := Ideal) oh P W = rowAt 4 oh P W := by
  funext i
  unfold rowAt
  pointwise [k0_pay32]

theorem row_pay33 (W : FVec Ideal S200x128 .bf16) : k0_pay33 (F := Ideal) oh P W = rowAt 5 oh P W := by
  funext i
  unfold rowAt
  pointwise [k0_pay33]

theorem row_pay34 (W : FVec Ideal S200x128 .bf16) : k0_pay34 (F := Ideal) oh P W = rowAt 6 oh P W := by
  funext i
  unfold rowAt
  pointwise [k0_pay34]

theorem row_pay35 (W : FVec Ideal S200x128 .bf16) : k0_pay35 (F := Ideal) oh P W = rowAt 7 oh P W := by
  funext i
  unfold rowAt
  pointwise [k0_pay35]

theorem row_pay36 (W : FVec Ideal S200x128 .bf16) : k0_pay36 (F := Ideal) oh P W = rowAt 8 oh P W := by
  funext i
  unfold rowAt
  pointwise [k0_pay36]

theorem row_pay37 (W : FVec Ideal S200x128 .bf16) : k0_pay37 (F := Ideal) oh P W = rowAt 9 oh P W := by
  funext i
  unfold rowAt
  pointwise [k0_pay37]

theorem row_pay38 (W : FVec Ideal S200x128 .bf16) : k0_pay38 (F := Ideal) oh P W = rowAt 10 oh P W := by
  funext i
  unfold rowAt
  pointwise [k0_pay38]

theorem row_pay39 (W : FVec Ideal S200x128 .bf16) : k0_pay39 (F := Ideal) oh P W = rowAt 11 oh P W := by
  funext i
  unfold rowAt
  pointwise [k0_pay39]

theorem row_pay40 (W : FVec Ideal S200x128 .bf16) : k0_pay40 (F := Ideal) oh P W = rowAt 12 oh P W := by
  funext i
  unfold rowAt
  pointwise [k0_pay40]

theorem row_pay41 (W : FVec Ideal S200x128 .bf16) : k0_pay41 (F := Ideal) oh P W = rowAt 13 oh P W := by
  funext i
  unfold rowAt
  pointwise [k0_pay41]

theorem row_pay42 (W : FVec Ideal S200x128 .bf16) : k0_pay42 (F := Ideal) oh P W = rowAt 14 oh P W := by
  funext i
  unfold rowAt
  pointwise [k0_pay42]

theorem row_pay43 (W : FVec Ideal S200x128 .bf16) : k0_pay43 (F := Ideal) oh P W = rowAt 15 oh P W := by
  funext i
  unfold rowAt
  pointwise [k0_pay43]

theorem row_pay44 (W : FVec Ideal S200x128 .bf16) : k0_pay44 (F := Ideal) oh P W = rowAt 16 oh P W := by
  funext i
  unfold rowAt
  pointwise [k0_pay44]

theorem row_pay45 (W : FVec Ideal S200x128 .bf16) : k0_pay45 (F := Ideal) oh P W = rowAt 17 oh P W := by
  funext i
  unfold rowAt
  pointwise [k0_pay45]

theorem row_pay46 (W : FVec Ideal S200x128 .bf16) : k0_pay46 (F := Ideal) oh P W = rowAt 18 oh P W := by
  funext i
  unfold rowAt
  pointwise [k0_pay46]

theorem row_pay47 (W : FVec Ideal S200x128 .bf16) : k0_pay47 (F := Ideal) oh P W = rowAt 19 oh P W := by
  funext i
  unfold rowAt
  pointwise [k0_pay47]

theorem row_pay48 (W : FVec Ideal S200x128 .bf16) : k0_pay48 (F := Ideal) oh P W = rowAt 20 oh P W := by
  funext i
  unfold rowAt
  pointwise [k0_pay48]

theorem row_pay49 (W : FVec Ideal S200x128 .bf16) : k0_pay49 (F := Ideal) oh P W = rowAt 21 oh P W := by
  funext i
  unfold rowAt
  pointwise [k0_pay49]

theorem row_pay50 (W : FVec Ideal S200x128 .bf16) : k0_pay50 (F := Ideal) oh P W = rowAt 22 oh P W := by
  funext i
  unfold rowAt
  pointwise [k0_pay50]

theorem row_pay51 (W : FVec Ideal S200x128 .bf16) : k0_pay51 (F := Ideal) oh P W = rowAt 23 oh P W := by
  funext i
  unfold rowAt
  pointwise [k0_pay51]

theorem row_pay52 (W : FVec Ideal S200x128 .bf16) : k0_pay52 (F := Ideal) oh P W = rowAt 24 oh P W := by
  funext i
  unfold rowAt
  pointwise [k0_pay52]

theorem row_pay53 (W : FVec Ideal S200x128 .bf16) : k0_pay53 (F := Ideal) oh P W = rowAt 25 oh P W := by
  funext i
  unfold rowAt
  pointwise [k0_pay53]

theorem row_pay54 (W : FVec Ideal S200x128 .bf16) : k0_pay54 (F := Ideal) oh P W = rowAt 26 oh P W := by
  funext i
  unfold rowAt
  pointwise [k0_pay54]

theorem row_pay55 (W : FVec Ideal S200x128 .bf16) : k0_pay55 (F := Ideal) oh P W = rowAt 27 oh P W := by
  funext i
  unfold rowAt
  pointwise [k0_pay55]

theorem row_pay1 (W : FVec Ideal S200x128 .bf16) : k0_pay1 (F := Ideal) oh P W = rowAt 28 oh P W := by
  funext i
  unfold rowAt
  pointwise [k0_pay1]

theorem row_pay2 (W : FVec Ideal S200x128 .bf16) : k0_pay2 (F := Ideal) oh P W = rowAt 29 oh P W := by
  funext i
  unfold rowAt
  pointwise [k0_pay2]

theorem row_pay3 (W : FVec Ideal S200x128 .bf16) : k0_pay3 (F := Ideal) oh P W = rowAt 30 oh P W := by
  funext i
  unfold rowAt
  pointwise [k0_pay3]

theorem row_pay4 (W : FVec Ideal S200x128 .bf16) : k0_pay4 (F := Ideal) oh P W = rowAt 31 oh P W := by
  funext i
  unfold rowAt
  pointwise [k0_pay4]

end Cert.KernelIdeal.Values
-- ==== Proof.Values.Operands.lean ====
/- The arrays the region's windows read, as the host lines before the region compute them from the arguments. -/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Values

open Cert.KernelIdeal Cert.KernelIdeal.Gen
open Idealize.ShloMosaic Idealize.ShloMosaic.TcCoe Idealize.SL.Sem
open Idealize.ShloMosaic.Pipeline (Dat)

theorem sitofp_zero : FloatOps.sitofp (F := Ideal) FTy.f32 (0#32) = (0 : EReal) := by
  show (((0#32 : BitVec 32).toInt : ℝ) : EReal) = 0
  simp

theorem zero_word : (constant (F := Ideal) S_ .f32 0x00000000#32 : FVec Ideal S_ .f32) ix0 = (0 : EReal) := by
  pointwise

variable (m : (ℓ : Loc nD τ sig) → Buf (Elt Ideal) ℓ) (c : Dev nD)

/-- The atom rows. -/
theorem atoms_at (a : Fin 4320) (k : Fin 77) :
    (V m c main_v0 : FVec Ideal S4320x77 .f32) (ix2 a k)
      = (m ((c : Thread nD τ).loc main_arg0) : FVec Ideal S1x4320x77 .f32) (ix3 0 a k) := by
  simp only [V, V0, List.flatten_cons, List.flatten_nil, List.append_nil, List.cons_append, List.nil_append]
  entry_read; pointwise

/-- The lengths, as real numbers. -/
theorem lens_at (t : Fin 512) :
    (V m c main_v5 : FVec Ideal S512x1 .f32) (ix2 t 0)
      = FloatOps.sitofp (F := Ideal) FTy.f32 (IntOp.maxsi ((m ((c : Thread nD τ).loc main_arg8) : IVec S1x512 32) (ix2 0 t)) 0#32) := by
  simp only [V, V0, List.flatten_cons, List.flatten_nil, List.append_nil, List.cons_append, List.nil_append]
  entry_read; pointwise

theorem feats_at (t : Fin 512) (k : Fin 33) :
    (V m c main_v6 : FVec Ideal S512x33 .f32) (ix2 t k)
      = (m ((c : Thread nD τ).loc main_arg7) : FVec Ideal S1x512x33 .f32) (ix3 0 t k) := by
  simp only [V, V0, List.flatten_cons, List.flatten_nil, List.append_nil, List.cons_append, List.nil_append]
  entry_read; pointwise

theorem ids_at (t : Fin 512) :
    (V m c main_v8 : IVec S512x1 32) (ix2 t 0)
      = (m ((c : Thread nD τ).loc main_arg10) : IVec S1x512 32) (ix2 0 t) := by
  simp only [V, V0, List.flatten_cons, List.flatten_nil, List.append_nil, List.cons_append, List.nil_append]
  entry_read; pointwise

/-- A padding of the last columns by zero. -/
theorem padCols_at (x : FVec Ideal S512x4 .f32) (t : Fin 512) (k : Fin 8) :
    pad S512x8 ![0, 0] ![0, 4] ![0, 0] x (sitofp FTy.f32 (constantI S_ 32 0#32) : FVec Ideal S_ .f32) pads_S512x4_S512x8_000_040 h_S_ (ix2 t k)
      = if h : (k : ℕ) < 4 then x (ix2 t ⟨k, h⟩) else (0 : EReal) := by
  pointwise
  split
  · rfl
  · exact sitofp_zero

/-- A padding of the last rows by zero. -/
theorem padRows_at (x : FVec Ideal S4x384 .f32) (k : Fin 8) (o : Fin 384) :
    pad S8x384 ![0, 0] ![4, 0] ![0, 0] x (sitofp FTy.f32 (constantI S_ 32 0#32) : FVec Ideal S_ .f32) pads_S4x384_S8x384_040_000 h_S_ (ix2 k o)
      = if h : (k : ℕ) < 4 then x (ix2 ⟨k, h⟩ o) else (0 : EReal) := by
  pointwise
  split
  · rfl
  · exact sitofp_zero

theorem transposeMeta_at (x : IVec S512x8 32) (t : Fin 512) (k : Fin 8) :
    (transpose S8x512 [1, 0] x transposes_S512x8_S8x512_1_0 : IVec S8x512 32) (ix2 k t) = x (ix2 t k) := by pointwise

theorem bondMap_at (x : IVec S1x512x512 1) (i j : Fin 512) :
    (uitofp FTy.f32 (shapeCast S512x512 x shapeCasts_S1x512x512_S512x512) : FVec Ideal S512x512 .f32) (ix2 i j)
      = FloatOps.uitofp (F := Ideal) FTy.f32 (x (ix3 0 i j)) := by pointwise

theorem bondMapT_at (x : IVec S1x512x512 1) (i j : Fin 512) :
    (transpose S512x512 [1, 0] (uitofp FTy.f32 (shapeCast S512x512 x shapeCasts_S1x512x512_S512x512) : FVec Ideal S512x512 .f32) transposes_S512x512_S512x512_1_0 : FVec Ideal S512x512 .f32) (ix2 i j)
      = FloatOps.uitofp (F := Ideal) FTy.f32 (x (ix3 0 j i)) := by pointwise

theorem zeroRows_at {r : ℕ} (h : (⟨4, ![r, 1, 1, 128]⟩ : Shape).ShapeCasts ⟨2, ![r, 128]⟩)
    (hb : (⟨4, ![1, 1, 1, 128]⟩ : Shape).BroadcastsInDim ⟨4, ![r, 1, 1, 128]⟩ ![0, 1, 2, 3]) (i) :
    (shapeCast (⟨2, ![r, 128]⟩ : Shape) (broadcastInDim (⟨4, ![r, 1, 1, 128]⟩ : Shape) ![0, 1, 2, 3] hb
      (shapeCast S1x1x1x128 (broadcastInDim S1x128 ![] bcast_S_S1x128 (constant (F := Ideal) S_ .f32 0x00000000#32)) shapeCasts_S1x128_S1x1x1x128)) h
        : FVec Ideal ⟨2, ![r, 128]⟩ .f32) i = (0 : EReal) := zero_word

set_option maxHeartbeats 1000000 in
theorem modEmb_at (k : Fin 8) (o : Fin 384) :
    (V m c main_v12 : FVec Ideal S8x384 .f32) (ix2 k o)
      = if h : (k : ℕ) < 4 then (m ((c : Thread nD τ).loc main_arg25) : FVec Ideal S4x384 .f32) (ix2 ⟨k, h⟩ o) else (0 : EReal) := by
  simp only [V, V0, List.flatten_cons, List.flatten_nil, List.append_nil, List.cons_append, List.nil_append]
  entry_read
  exact padRows_at (m ((c : Thread nD τ).loc main_arg25) : FVec Ideal S4x384 .f32) k o

theorem single_a (k : Fin 384) (o : Fin 384) :
    (V m c main_v13 : FVec Ideal S384x384 .f32) (ix2 k o)
      = (m ((c : Thread nD τ).loc main_arg19) : FVec Ideal S417x384 .f32) (ix2 (Fin.castAdd 33 k) o) := by
  simp only [V, V0, List.flatten_cons, List.flatten_nil, List.append_nil, List.cons_append, List.nil_append]
  entry_read; pointwise; rfl

theorem single_b (k : Fin 33) (o : Fin 384) :
    (V m c main_v14 : FVec Ideal S33x384 .f32) (ix2 k o)
      = (m ((c : Thread nD τ).loc main_arg19) : FVec Ideal S417x384 .f32) (ix2 (Fin.natAdd 384 k) o) := by
  simp only [V, V0, List.flatten_cons, List.flatten_nil, List.append_nil, List.cons_append, List.nil_append]
  entry_read; pointwise; rfl

theorem row_a (k : Fin 384) (o : Fin 128) :
    (V m c main_v15 : FVec Ideal S384x128 .f32) (ix2 k o)
      = (m ((c : Thread nD τ).loc main_arg21) : FVec Ideal S417x128 .f32) (ix2 (Fin.castAdd 33 k) o) := by
  simp only [V, V0, List.flatten_cons, List.flatten_nil, List.append_nil, List.cons_append, List.nil_append]
  entry_read; pointwise; rfl

theorem row_b (k : Fin 33) (o : Fin 128) :
    (V m c main_v16 : FVec Ideal S33x128 .f32) (ix2 k o)
      = (m ((c : Thread nD τ).loc main_arg21) : FVec Ideal S417x128 .f32) (ix2 (Fin.natAdd 384 k) o) := by
  simp only [V, V0, List.flatten_cons, List.flatten_nil, List.append_nil, List.cons_append, List.nil_append]
  entry_read; pointwise; rfl

theorem col_a (k : Fin 384) (o : Fin 128) :
    (V m c main_v17 : FVec Ideal S384x128 .f32) (ix2 k o)
      = (m ((c : Thread nD τ).loc main_arg22) : FVec Ideal S417x128 .f32) (ix2 (Fin.castAdd 33 k) o) := by
  simp only [V, V0, List.flatten_cons, List.flatten_nil, List.append_nil, List.cons_append, List.nil_append]
  entry_read; pointwise; rfl

theorem col_b (k : Fin 33) (o : Fin 128) :
    (V m c main_v18 : FVec Ideal S33x128 .f32) (ix2 k o)
      = (m ((c : Thread nD τ).loc main_arg22) : FVec Ideal S417x128 .f32) (ix2 (Fin.natAdd 384 k) o) := by
  simp only [V, V0, List.flatten_cons, List.flatten_nil, List.append_nil, List.cons_append, List.nil_append]
  entry_read; pointwise; rfl

/-- Is the token of a chained biomolecule. -/
def bio (x : IVec S1x512x5 1) : IVec S512 1 :=
  Host.reduce IntOp.ori (shapeCast S512x3 (extractStridedSlice S1x512x3 ![0, 0, 0] x slices_S1x512x5_S1x512x3_0_0_0) shapeCasts_S1x512x3_S512x3)
    (constantI S_ 1 0#1) reducesTo_S512x3_S512_d1 h_S_

theorem metaCat_at (x : IVec S512x5 32) (b : IVec S512 1) (t : Fin 512) (k : Fin 8) :
    concatenate S512x8 1 [⟨S512x5, x⟩, ⟨S512x1, extui 32 (broadcastInDim S512x1 ![0] bcast_S512_S512x1_0 b) natLt_1_32⟩,
        ⟨S512x2, broadcastInDim S512x2 ![] bcast_S_S512x2 (constantI S_ 32 0#32)⟩] concatenates_S512x5_S512x1_S512x2_S512x8_d1 (ix2 t k)
      = if h : (k : ℕ) < 5 then x (ix2 t ⟨k, h⟩)
        else if (k : ℕ) - 5 < 1 then BitVec.setWidth 32 (b (ix1 t)) else 0#32 := by
  pointwise
  rfl

/-- The stacked relative-position weights. -/
theorem stackCat_at (W : FVec Ideal S139x128 .f32) (Z6 : FVec Ideal S6x128 .f32) (Z6' : FVec Ideal S6x128 .f32) (Z7 : FVec Ideal S7x128 .f32) (Z2 : FVec Ideal S2x128 .f32)
    (h6 : ∀ i, Z6 i = (0 : EReal)) (h6' : ∀ i, Z6' i = (0 : EReal)) (h7 : ∀ i, Z7 i = (0 : EReal)) (h2 : ∀ i, Z2 i = (0 : EReal)) (k : Fin 160) (o : Fin 128) :
    (truncf .bf16 (concatenate S160x128 0 [⟨S66x128, extractStridedSlice S66x128 ![0, 0] W slices_S139x128_S66x128_0_0⟩, ⟨S6x128, Z6⟩,
        ⟨S66x128, extractStridedSlice S66x128 ![66, 0] W slices_S139x128_S66x128_66_0⟩, ⟨S6x128, Z6'⟩,
        ⟨S1x128, extractStridedSlice S1x128 ![132, 0] W slices_S139x128_S1x128_132_0⟩, ⟨S7x128, Z7⟩,
        ⟨S6x128, extractStridedSlice S6x128 ![133, 0] W slices_S139x128_S6x128_133_0⟩, ⟨S2x128, Z2⟩]
        concatenates_S66x128_S6x128_S66x128_S6x128_S1x128_S7x128_S6x128_S2x128_S160x128_d0) bitsLt_bf16_f32 : FVec Ideal S160x128 .bf16) (ix2 k o)
      = if h : (k : ℕ) < 66 then W (ix2 ⟨k, by omega⟩ o)
        else if (k : ℕ) - 66 < 6 then (0 : EReal)
        else if h : (k : ℕ) - 66 - 6 < 66 then W (ix2 ⟨66 + (k - 66 - 6), by omega⟩ o)
        else if (k : ℕ) - 66 - 6 - 66 < 6 then (0 : EReal)
        else if (k : ℕ) - 66 - 6 - 66 - 6 < 1 then W (ix2 ⟨132, by omega⟩ o)
        else if (k : ℕ) - 66 - 6 - 66 - 6 - 1 < 7 then (0 : EReal)
        else if h : (k : ℕ) - 66 - 6 - 66 - 6 - 1 - 7 < 6 then W (ix2 ⟨133 + (k - 66 - 6 - 66 - 6 - 1 - 7), by omega⟩ o)
        else (0 : EReal) := by
  pointwise
  simp only [h6, h6', h7, h2, dite_eq_ite]
  refine dite_congr rfl (fun _ => rfl) fun _ => if_congr Iff.rfl rfl (dite_congr rfl (fun _ => rfl) fun _ => if_congr Iff.rfl rfl ?_)
  by_cases h : (k : ℕ) - 66 - 6 - 66 - 6 < 1
  · rw [dif_pos h, if_pos h]
    exact congrArg (fun z => W (ix2 z o)) (Fin.ext (by show 132 + ((k : ℕ) - 66 - 6 - 66 - 6) = 132; omega))
  · rw [dif_neg h, if_neg h]

end Cert.KernelIdeal.Values
-- ==== Proof.Values.Lines.lean ====
/- The arrays that take several host lines, each read off the lines that compute it. -/
module

public import proofs.«01_k».proof.Proof.Values.Operands
public import Idealize.ShloMosaic.Lib.Pipeline.ValueKit
public import Idealize.ShloMosaic.Lib.Claim

@[expose] public section

set_option maxRecDepth 16384

noncomputable section

namespace Cert.KernelIdeal.Values

open Cert.KernelIdeal Cert.KernelIdeal.Gen
open Idealize.ShloMosaic Idealize.ShloMosaic.TcCoe Idealize.SL.Sem

/-- The host lines before the region. -/
abbrev lines : List (HloOp τ sig (Elt Ideal)) := List.flatten [hostOps0, hostOps0_1, hostOps0_2, hostOps0_3, hostOps0_4]

theorem after_split (a b : List (HloOp τ sig (Elt Ideal))) (σ : Valuation τ sig (Elt Ideal)) :
    StableHlo.after (a ++ b) σ = StableHlo.after b (StableHlo.after a σ) := by
  induction a generalizing σ with
  | nil => rfl
  | cons o a ih => exact ih _

/-- A buffer that the lines after the first `a + n` leave alone is read off the `n` lines from the `a`th on. -/
theorem after_window (l : List (HloOp τ sig (Elt Ideal))) (σ : Valuation τ sig (Elt Ideal)) (a n : ℕ) (b : DevRef τ sig)
    (h : ((l.drop a).drop n).Forall fun op => b ∉ op.writes) :
    StableHlo.after l σ b = StableHlo.after ((l.drop a).take n) (StableHlo.after (l.take a) σ) b := by
  conv_lhs => rw [← List.take_append_drop a l, ← List.take_append_drop n (l.drop a), after_split, after_split]
  exact StableHlo.after_of_forall_not_mem _ _ (List.forall_iff_forall_mem.mp h)

theorem forall_take {p : HloOp τ sig (Elt Ideal) → Prop} {l : List (HloOp τ sig (Elt Ideal))} (h : l.Forall p) (a : ℕ) :
    ∀ op ∈ l.take a, p op := fun op ho => List.forall_iff_forall_mem.mp h op (List.mem_of_mem_take ho)

variable (m : (ℓ : Loc nD τ sig) → Buf (Elt Ideal) ℓ) (c : Dev nD)

/-! The lines write no argument. -/

theorem before_arg11 (a : ℕ) : StableHlo.after (lines.take a) (fun b => m (c, b)) (Proc.devRef .tc main_arg11) = m ((c : Thread nD τ).loc main_arg11) :=
  StableHlo.after_of_forall_not_mem (b := Proc.devRef .tc main_arg11) _ _ (forall_take (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)) a)

theorem before_arg13 (a : ℕ) : StableHlo.after (lines.take a) (fun b => m (c, b)) (Proc.devRef .tc main_arg13) = m ((c : Thread nD τ).loc main_arg13) :=
  StableHlo.after_of_forall_not_mem (b := Proc.devRef .tc main_arg13) _ _ (forall_take (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)) a)

theorem before_arg12 (a : ℕ) : StableHlo.after (lines.take a) (fun b => m (c, b)) (Proc.devRef .tc main_arg12) = m ((c : Thread nD τ).loc main_arg12) :=
  StableHlo.after_of_forall_not_mem (b := Proc.devRef .tc main_arg12) _ _ (forall_take (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)) a)

theorem before_arg6 (a : ℕ) : StableHlo.after (lines.take a) (fun b => m (c, b)) (Proc.devRef .tc main_arg6) = m ((c : Thread nD τ).loc main_arg6) :=
  StableHlo.after_of_forall_not_mem (b := Proc.devRef .tc main_arg6) _ _ (forall_take (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)) a)

theorem before_arg26 (a : ℕ) : StableHlo.after (lines.take a) (fun b => m (c, b)) (Proc.devRef .tc main_arg26) = m ((c : Thread nD τ).loc main_arg26) :=
  StableHlo.after_of_forall_not_mem (b := Proc.devRef .tc main_arg26) _ _ (forall_take (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)) a)

/-- The modification bits, padded to eight columns. -/
theorem mods_at (t : Fin 512) (k : Fin 8) :
    (V m c main_v11 : FVec Ideal S512x8 .f32) (ix2 t k)
      = if h : (k : ℕ) < 4 then FloatOps.uitofp (F := Ideal) FTy.f32 ((m ((c : Thread nD τ).loc main_arg11) : IVec S1x512x4 1) (ix3 0 t ⟨k, h⟩)) else (0 : EReal) := by
  have e := after_window lines (fun b => m (c, b)) 10 5 (Proc.devRef .tc main_v11) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h11 := before_arg11 m c 10
  generalize StableHlo.after (lines.take 10) (fun b => m (c, b)) = σ at e h11
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine (congrFun e (ix2 t k)).trans ?_
  entry_read
  refine (padCols_at (uitofp FTy.f32 (shapeCast S512x4 (σ (Proc.devRef .tc main_arg11) : IVec S1x512x4 1) shapeCasts_S1x512x4_S512x4)) t k).trans ?_
  rw [h11]
  refine dite_congr rfl (fun h => ?_) fun _ => rfl
  pointwise

theorem line_v19 : (V m c main_v19 : IVec S512x5 32) = shapeCast S512x5 (m ((c : Thread nD τ).loc main_arg13) : IVec S1x512x5 32) shapeCasts_S1x512x5_S512x5 := by
  have e := after_window lines (fun b => m (c, b)) 24 1 (Proc.devRef .tc main_v19) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h13 := before_arg13 m c 24
  generalize StableHlo.after (lines.take 24) (fun b => m (c, b)) = σ at e h13
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  rw [h13]
  rfl

theorem line_v24 : (V m c main_v24 : IVec S512x1 32) = extui 32 (broadcastInDim S512x1 ![0] bcast_S512_S512x1_0 (bio (m ((c : Thread nD τ).loc main_arg12) : IVec S1x512x5 1))) natLt_1_32 := by
  have e := after_window lines (fun b => m (c, b)) 25 6 (Proc.devRef .tc main_v24) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h12 := before_arg12 m c 25
  generalize StableHlo.after (lines.take 25) (fun b => m (c, b)) = σ at e h12
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  rw [h12]
  rfl

theorem line_v25 : (V m c main_v25 : IVec S512x2 32) = broadcastInDim S512x2 ![] bcast_S_S512x2 (constantI S_ 32 0#32) := by
  have e := after_window lines (fun b => m (c, b)) 31 2 (Proc.devRef .tc main_v25) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  generalize StableHlo.after (lines.take 31) (fun b => m (c, b)) = σ at e
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  all_goals rfl

theorem line_v26 : (V m c main_v26 : IVec S512x8 32) = concatenate S512x8 1 [⟨S512x5, (V m c main_v19 : IVec S512x5 32)⟩, ⟨S512x1, (V m c main_v24 : IVec S512x1 32)⟩, ⟨S512x2, (V m c main_v25 : IVec S512x2 32)⟩] concatenates_S512x5_S512x1_S512x2_S512x8_d1 := by
  have e := after_window lines (fun b => m (c, b)) 33 1 (Proc.devRef .tc main_v26) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have u19 : StableHlo.after (lines.take 33) (fun b => m (c, b)) (Proc.devRef .tc main_v19) = V m c main_v19 :=
    (after_window lines (fun b => m (c, b)) 33 0 (Proc.devRef .tc main_v19) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u24 : StableHlo.after (lines.take 33) (fun b => m (c, b)) (Proc.devRef .tc main_v24) = V m c main_v24 :=
    (after_window lines (fun b => m (c, b)) 33 0 (Proc.devRef .tc main_v24) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u25 : StableHlo.after (lines.take 33) (fun b => m (c, b)) (Proc.devRef .tc main_v25) = V m c main_v25 :=
    (after_window lines (fun b => m (c, b)) 33 0 (Proc.devRef .tc main_v25) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  rw [← u19, ← u24, ← u25]
  generalize StableHlo.after (lines.take 33) (fun b => m (c, b)) = σ at e ⊢
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  rw [StableHlo.after_cons, StableHlo.after_nil]
  exact (StableHlo.nary_result _ _ _ _ _ σ).trans rfl

/-- The five integer features, the residue bit and two columns of zeros. -/
def metaEntry (X : IVec S1x512x5 32) (b : IVec S512 1) (t : Fin 512) (k : Fin 8) : BitVec 32 :=
  if h : (k : ℕ) < 5 then X (ix3 0 t ⟨k, h⟩) else if (k : ℕ) - 5 < 1 then BitVec.setWidth 32 (b (ix1 t)) else 0#32

theorem metaEntry_at (X : IVec S1x512x5 32) (b : IVec S512 1) (t : Fin 512) (k : Fin 8) :
    concatenate S512x8 1 [⟨S512x5, shapeCast S512x5 X shapeCasts_S1x512x5_S512x5⟩, ⟨S512x1, extui 32 (broadcastInDim S512x1 ![0] bcast_S512_S512x1_0 b) natLt_1_32⟩,
        ⟨S512x2, broadcastInDim S512x2 ![] bcast_S_S512x2 (constantI S_ 32 0#32)⟩] concatenates_S512x5_S512x1_S512x2_S512x8_d1 (ix2 t k)
      = metaEntry X b t k := by
  refine (metaCat_at _ b t k).trans ?_
  unfold metaEntry
  refine dite_congr rfl (fun h => ?_) fun _ => rfl
  pointwise

theorem meta_at (t : Fin 512) (k : Fin 8) :
    (V m c main_v26 : IVec S512x8 32) (ix2 t k)
      = metaEntry (m ((c : Thread nD τ).loc main_arg13)) (bio (m ((c : Thread nD τ).loc main_arg12) : IVec S1x512x5 1)) t k := by
  have e := congrFun (line_v26 m c) (ix2 t k)
  rw [line_v19, line_v24, line_v25] at e
  exact e.trans (metaEntry_at (m ((c : Thread nD τ).loc main_arg13)) (bio (m ((c : Thread nD τ).loc main_arg12) : IVec S1x512x5 1)) t k)

theorem line_v27 : (V m c main_v27 : IVec S8x512 32) = transpose S8x512 [1, 0] (V m c main_v26 : IVec S512x8 32) transposes_S512x8_S8x512_1_0 := by
  have e := after_window lines (fun b => m (c, b)) 34 1 (Proc.devRef .tc main_v27) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have u26 : StableHlo.after (lines.take 34) (fun b => m (c, b)) (Proc.devRef .tc main_v26) = V m c main_v26 :=
    (after_window lines (fun b => m (c, b)) 34 0 (Proc.devRef .tc main_v26) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))).symm
  rw [← u26]
  generalize StableHlo.after (lines.take 34) (fun b => m (c, b)) = σ at e ⊢
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  all_goals rfl

theorem metaT_at (t : Fin 512) (k : Fin 8) :
    (V m c main_v27 : IVec S8x512 32) (ix2 k t)
      = metaEntry (m ((c : Thread nD τ).loc main_arg13)) (bio (m ((c : Thread nD τ).loc main_arg12) : IVec S1x512x5 1)) t k := by
  rw [line_v27]
  exact (transposeMeta_at _ t k).trans (meta_at m c t k)

theorem bonds_at (i j : Fin 512) :
    (V m c main_v29 : FVec Ideal S512x512 .f32) (ix2 i j)
      = FloatOps.uitofp (F := Ideal) FTy.f32 ((m ((c : Thread nD τ).loc main_arg6) : IVec S1x512x512 1) (ix3 0 i j)) := by
  have e := after_window lines (fun b => m (c, b)) 35 2 (Proc.devRef .tc main_v29) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h6 := before_arg6 m c 35
  generalize StableHlo.after (lines.take 35) (fun b => m (c, b)) = σ at e h6
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine (congrFun e (ix2 i j)).trans ?_
  entry_read
  rw [← h6]
  exact bondMap_at (σ (Proc.devRef .tc main_arg6) : IVec S1x512x512 1) i j

theorem bondsT_at (i j : Fin 512) :
    (V m c main_v30 : FVec Ideal S512x512 .f32) (ix2 i j)
      = FloatOps.uitofp (F := Ideal) FTy.f32 ((m ((c : Thread nD τ).loc main_arg6) : IVec S1x512x512 1) (ix3 0 j i)) := by
  have e := after_window lines (fun b => m (c, b)) 35 3 (Proc.devRef .tc main_v30) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h6 := before_arg6 m c 35
  generalize StableHlo.after (lines.take 35) (fun b => m (c, b)) = σ at e h6
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine (congrFun e (ix2 i j)).trans ?_
  entry_read
  rw [← h6]
  exact bondMapT_at (σ (Proc.devRef .tc main_arg6) : IVec S1x512x512 1) i j

theorem line_v35 : (V m c main_v35 : FVec Ideal S6x128 .f32) = shapeCast (⟨2, ![6, 128]⟩ : Shape) (broadcastInDim (⟨4, ![6, 1, 1, 128]⟩ : Shape) ![0, 1, 2, 3] bcast_S1x1x1x128_S6x1x1x128_0_1_2_3 (shapeCast S1x1x1x128 (broadcastInDim S1x128 ![] bcast_S_S1x128 (constant (F := Ideal) S_ .f32 0x00000000#32)) shapeCasts_S1x128_S1x1x1x128)) shapeCasts_S6x1x1x128_S6x128 := by
  have e := after_window lines (fun b => m (c, b)) 38 6 (Proc.devRef .tc main_v35) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  generalize StableHlo.after (lines.take 38) (fun b => m (c, b)) = σ at e
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  all_goals rfl

theorem line_v39 : (V m c main_v39 : FVec Ideal S6x128 .f32) = shapeCast (⟨2, ![6, 128]⟩ : Shape) (broadcastInDim (⟨4, ![6, 1, 1, 128]⟩ : Shape) ![0, 1, 2, 3] bcast_S1x1x1x128_S6x1x1x128_0_1_2_3 (shapeCast S1x1x1x128 (broadcastInDim S1x128 ![] bcast_S_S1x128 (constant (F := Ideal) S_ .f32 0x00000000#32)) shapeCasts_S1x128_S1x1x1x128)) shapeCasts_S6x1x1x128_S6x128 := by
  have e := after_window lines (fun b => m (c, b)) 38 10 (Proc.devRef .tc main_v39) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  generalize StableHlo.after (lines.take 38) (fun b => m (c, b)) = σ at e
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  all_goals rfl

theorem line_v43 : (V m c main_v43 : FVec Ideal S7x128 .f32) = shapeCast (⟨2, ![7, 128]⟩ : Shape) (broadcastInDim (⟨4, ![7, 1, 1, 128]⟩ : Shape) ![0, 1, 2, 3] bcast_S1x1x1x128_S7x1x1x128_0_1_2_3 (shapeCast S1x1x1x128 (broadcastInDim S1x128 ![] bcast_S_S1x128 (constant (F := Ideal) S_ .f32 0x00000000#32)) shapeCasts_S1x128_S1x1x1x128)) shapeCasts_S7x1x1x128_S7x128 := by
  have e := after_window lines (fun b => m (c, b)) 38 14 (Proc.devRef .tc main_v43) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  generalize StableHlo.after (lines.take 38) (fun b => m (c, b)) = σ at e
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  all_goals rfl

theorem line_v47 : (V m c main_v47 : FVec Ideal S2x128 .f32) = shapeCast (⟨2, ![2, 128]⟩ : Shape) (broadcastInDim (⟨4, ![2, 1, 1, 128]⟩ : Shape) ![0, 1, 2, 3] bcast_S1x1x1x128_S2x1x1x128_0_1_2_3 (shapeCast S1x1x1x128 (broadcastInDim S1x128 ![] bcast_S_S1x128 (constant (F := Ideal) S_ .f32 0x00000000#32)) shapeCasts_S1x128_S1x1x1x128)) shapeCasts_S2x1x1x128_S2x128 := by
  have e := after_window lines (fun b => m (c, b)) 38 18 (Proc.devRef .tc main_v47) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  generalize StableHlo.after (lines.take 38) (fun b => m (c, b)) = σ at e
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  all_goals rfl

theorem line_v32 : (V m c main_v32 : FVec Ideal S66x128 .f32) = extractStridedSlice S66x128 ![0, 0] (m ((c : Thread nD τ).loc main_arg26) : FVec Ideal S139x128 .f32) slices_S139x128_S66x128_0_0 := by
  have e := after_window lines (fun b => m (c, b)) 40 1 (Proc.devRef .tc main_v32) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h26 := before_arg26 m c 40
  generalize StableHlo.after (lines.take 40) (fun b => m (c, b)) = σ at e h26
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  rw [h26]

theorem line_v36 : (V m c main_v36 : FVec Ideal S66x128 .f32) = extractStridedSlice S66x128 ![66, 0] (m ((c : Thread nD τ).loc main_arg26) : FVec Ideal S139x128 .f32) slices_S139x128_S66x128_66_0 := by
  have e := after_window lines (fun b => m (c, b)) 44 1 (Proc.devRef .tc main_v36) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h26 := before_arg26 m c 44
  generalize StableHlo.after (lines.take 44) (fun b => m (c, b)) = σ at e h26
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  rw [h26]

theorem line_v40 : (V m c main_v40 : FVec Ideal S1x128 .f32) = extractStridedSlice S1x128 ![132, 0] (m ((c : Thread nD τ).loc main_arg26) : FVec Ideal S139x128 .f32) slices_S139x128_S1x128_132_0 := by
  have e := after_window lines (fun b => m (c, b)) 48 1 (Proc.devRef .tc main_v40) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h26 := before_arg26 m c 48
  generalize StableHlo.after (lines.take 48) (fun b => m (c, b)) = σ at e h26
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  rw [h26]

theorem line_v44 : (V m c main_v44 : FVec Ideal S6x128 .f32) = extractStridedSlice S6x128 ![133, 0] (m ((c : Thread nD τ).loc main_arg26) : FVec Ideal S139x128 .f32) slices_S139x128_S6x128_133_0 := by
  have e := after_window lines (fun b => m (c, b)) 52 1 (Proc.devRef .tc main_v44) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have h26 := before_arg26 m c 52
  generalize StableHlo.after (lines.take 52) (fun b => m (c, b)) = σ at e h26
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  rw [h26]

set_option maxHeartbeats 1600000 in
theorem line_v48 : (V m c main_v48 : FVec Ideal S160x128 .f32) = concatenate S160x128 0 [⟨S66x128, (V m c main_v32 : FVec Ideal S66x128 .f32)⟩, ⟨S6x128, (V m c main_v35 : FVec Ideal S6x128 .f32)⟩, ⟨S66x128, (V m c main_v36 : FVec Ideal S66x128 .f32)⟩, ⟨S6x128, (V m c main_v39 : FVec Ideal S6x128 .f32)⟩, ⟨S1x128, (V m c main_v40 : FVec Ideal S1x128 .f32)⟩, ⟨S7x128, (V m c main_v43 : FVec Ideal S7x128 .f32)⟩, ⟨S6x128, (V m c main_v44 : FVec Ideal S6x128 .f32)⟩, ⟨S2x128, (V m c main_v47 : FVec Ideal S2x128 .f32)⟩] concatenates_S66x128_S6x128_S66x128_S6x128_S1x128_S7x128_S6x128_S2x128_S160x128_d0 := by
  have e := after_window lines (fun b => m (c, b)) 56 1 (Proc.devRef .tc main_v48) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
  have u32 : StableHlo.after (lines.take 56) (fun b => m (c, b)) (Proc.devRef .tc main_v32) = V m c main_v32 :=
    (after_window lines (fun b => m (c, b)) 56 0 (Proc.devRef .tc main_v32) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u35 : StableHlo.after (lines.take 56) (fun b => m (c, b)) (Proc.devRef .tc main_v35) = V m c main_v35 :=
    (after_window lines (fun b => m (c, b)) 56 0 (Proc.devRef .tc main_v35) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u36 : StableHlo.after (lines.take 56) (fun b => m (c, b)) (Proc.devRef .tc main_v36) = V m c main_v36 :=
    (after_window lines (fun b => m (c, b)) 56 0 (Proc.devRef .tc main_v36) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u39 : StableHlo.after (lines.take 56) (fun b => m (c, b)) (Proc.devRef .tc main_v39) = V m c main_v39 :=
    (after_window lines (fun b => m (c, b)) 56 0 (Proc.devRef .tc main_v39) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u40 : StableHlo.after (lines.take 56) (fun b => m (c, b)) (Proc.devRef .tc main_v40) = V m c main_v40 :=
    (after_window lines (fun b => m (c, b)) 56 0 (Proc.devRef .tc main_v40) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u43 : StableHlo.after (lines.take 56) (fun b => m (c, b)) (Proc.devRef .tc main_v43) = V m c main_v43 :=
    (after_window lines (fun b => m (c, b)) 56 0 (Proc.devRef .tc main_v43) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u44 : StableHlo.after (lines.take 56) (fun b => m (c, b)) (Proc.devRef .tc main_v44) = V m c main_v44 :=
    (after_window lines (fun b => m (c, b)) 56 0 (Proc.devRef .tc main_v44) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  have u47 : StableHlo.after (lines.take 56) (fun b => m (c, b)) (Proc.devRef .tc main_v47) = V m c main_v47 :=
    (after_window lines (fun b => m (c, b)) 56 0 (Proc.devRef .tc main_v47) (by
      simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
        List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))).symm
  rw [← u32, ← u35, ← u36, ← u39, ← u40, ← u43, ← u44, ← u47]
  generalize StableHlo.after (lines.take 56) (fun b => m (c, b)) = σ at e ⊢
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  rw [StableHlo.after_cons, StableHlo.after_nil]
  exact (StableHlo.nary_result _ _ _ _ _ σ).trans rfl

theorem line_v49 : (V m c main_v49 : FVec Ideal S160x128 .bf16) = (truncf .bf16 (V m c main_v48 : FVec Ideal S160x128 .f32) bitsLt_bf16_f32 : FVec Ideal S160x128 .bf16) := by
  have e := after_window lines (fun b => m (c, b)) 57 1 (Proc.devRef .tc main_v49) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton])
  have u48 : StableHlo.after (lines.take 57) (fun b => m (c, b)) (Proc.devRef .tc main_v48) = V m c main_v48 :=
    (after_window lines (fun b => m (c, b)) 57 0 (Proc.devRef .tc main_v48) (by
    simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil,
      List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))).symm
  rw [← u48]
  generalize StableHlo.after (lines.take 57) (fun b => m (c, b)) = σ at e ⊢
  simp only [lines, hostOps0, hostOps0_1, hostOps0_2, hostOps0_3, hostOps0_4, List.flatten_cons, List.flatten_nil, List.append_nil, List.cons_append, List.nil_append, List.drop_succ_cons, List.drop_zero, List.take_succ_cons, List.take_zero, List.take_nil, List.drop_nil] at e
  refine e.trans ?_
  clear e
  entry_read
  all_goals rfl

/-- The stacked relative-position weights. -/
theorem stack_at (k : Fin 160) (o : Fin 128) :
    (V m c main_v49 : FVec Ideal S160x128 .bf16) (ix2 k o)
      = if h : (k : ℕ) < 66 then (m ((c : Thread nD τ).loc main_arg26) : FVec Ideal S139x128 .f32) (ix2 ⟨k, by omega⟩ o)
        else if (k : ℕ) - 66 < 6 then (0 : EReal)
        else if h : (k : ℕ) - 66 - 6 < 66 then (m ((c : Thread nD τ).loc main_arg26) : FVec Ideal S139x128 .f32) (ix2 ⟨66 + (k - 66 - 6), by omega⟩ o)
        else if (k : ℕ) - 66 - 6 - 66 < 6 then (0 : EReal)
        else if (k : ℕ) - 66 - 6 - 66 - 6 < 1 then (m ((c : Thread nD τ).loc main_arg26) : FVec Ideal S139x128 .f32) (ix2 ⟨132, by omega⟩ o)
        else if (k : ℕ) - 66 - 6 - 66 - 6 - 1 < 7 then (0 : EReal)
        else if h : (k : ℕ) - 66 - 6 - 66 - 6 - 1 - 7 < 6 then (m ((c : Thread nD τ).loc main_arg26) : FVec Ideal S139x128 .f32) (ix2 ⟨133 + (k - 66 - 6 - 66 - 6 - 1 - 7), by omega⟩ o)
        else (0 : EReal) := by
  have e := congrFun (line_v49 m c) (ix2 k o)
  rw [line_v48, line_v32, line_v35, line_v36, line_v39, line_v40, line_v43, line_v44, line_v47] at e
  refine e.trans ?_
  clear e
  exact stackCat_at (m ((c : Thread nD τ).loc main_arg26) : FVec Ideal S139x128 .f32) _ _ _ _ (fun i => zeroRows_at _ _ i) (fun i => zeroRows_at _ _ i) (fun i => zeroRows_at _ _ i) (fun i => zeroRows_at _ _ i) k o

end Cert.KernelIdeal.Values
-- ==== Proof.Values.Entry.lean ====
/- The entries of one row tile of the pair embedding. -/
module

public import proofs.«01_k».proof.Proof.Values.Scratch
public import proofs.«01_k».proof.Proof.Values.RowStores
public import proofs.«01_k».proof.Proof.Values.Lines
public import Idealize.ShloMosaic.Lib.Pipeline.ValueKit
public import Idealize.ShloMosaic.Lib.Claim

@[expose] public section

set_option maxRecDepth 16384

noncomputable section

namespace Cert.KernelIdeal.Values

open Cert.KernelIdeal Cert.KernelIdeal.Gen Cert.KernelIdeal.Region Cert.Embed
open Idealize.ShloMosaic Idealize.ShloMosaic.TcCoe Idealize.SL.Sem
open Idealize.ShloMosaic.Pipeline (Dat)

variable (m : (ℓ : Loc nD τ sig) → Buf (Elt Ideal) ℓ) (c : Dev nD)

theorem coord_val : ∀ t : Fin cfg0.N, (grid0.coords t 0).val = t.val := (by decide +kernel : ∀ t : Fin grid0.N, (grid0.coords t 0).val = t.val)

/-- One entry of the pair embedding, out of the row's and the column's metadata `x` and `y`, the bond entries
    `b` and `b'`, and the two parts `p` and `q`. -/
def pairEntry (x y : Fin 8 → BitVec 32) (b b' : EReal) (i j : Fin 512) (wr : Fin 139 → EReal) (p B q : EReal) : EReal :=
  (((if both (x 5) (y 5) = 1#1 then
      relpos (dist (IntOp.cmpi .eq (x 2) (y 2)) (x 0) (y 0) 32#32 64#32 65#32) (dist (IntOp.cmpi .eq (x 2) (y 2)) (x 1) (y 1) 32#32 64#32 65#32)
        (dist (IntOp.cmpi .eq (x 3) (y 3)) (x 4) (y 4) 2#32 4#32 5#32) (IntOp.cmpi .eq (x 3) (y 3)) wr else 0) + p)
    + (if i = j then 0 else max b b') * B) + q

theorem diag_word (t k j : ℕ) (b : EReal) (ht : t < 16) (hk : k < 32) (hj : j < 512) :
    Scalar.select (IntOp.cmpi .eq (BitVec.ofNat 32 j) (IntOp.addi (Scalar.muli (BitVec.ofNat 32 t) 32#32) (BitVec.ofNat 32 k))) (0 : EReal) b
      = if 32 * t + k = j then 0 else b := by
  have e : IntOp.addi (Scalar.muli (BitVec.ofNat 32 t) 32#32) (BitVec.ofNat 32 k) = BitVec.ofNat 32 (32 * t + k) := by
    show BitVec.ofNat 32 t * 32#32 + BitVec.ofNat 32 k = _
    apply BitVec.eq_of_toNat_eq
    simp [BitVec.toNat_add, BitVec.toNat_mul, BitVec.toNat_ofNat]
    omega
  rw [e]
  have e2 : (IntOp.cmpi .eq (BitVec.ofNat 32 j) (BitVec.ofNat 32 (32 * t + k)) = 1#1) ↔ 32 * t + k = j := by
    rw [StableHlo.Predicate.cmpi_eq_iff]
    constructor
    · intro h
      have := congrArg BitVec.toNat h
      simp [BitVec.toNat_ofNat] at this
      omega
    · intro h
      rw [h]
  by_cases h : 32 * t + k = j
  · rw [if_pos h, e2.mpr h]; rfl
  · rw [if_neg h]
    have : IntOp.cmpi .eq (BitVec.ofNat 32 j) (BitVec.ofNat 32 (32 * t + k)) = 0#1 := by
      rcases (by generalize IntOp.cmpi .eq (BitVec.ofNat 32 j) (BitVec.ofNat 32 (32 * t + k)) = z; revert z; decide : IntOp.cmpi .eq (BitVec.ofNat 32 j) (BitVec.ofNat 32 (32 * t + k)) = 0#1 ∨ IntOp.cmpi .eq (BitVec.ofNat 32 j) (BitVec.ofNat 32 (32 * t + k)) = 1#1) with h' | h'
      · exact h'
      · exact absurd (e2.mp h') h
    rw [this]; rfl

/-- The sum of the products of a row of token features and of additional features with their weights. -/
def part (tk : FVec Ideal S512x384 .f32) (w : FVec Ideal S384x128 .f32) (atf : FVec Ideal S512x33 .f32) (w' : FVec Ideal S33x128 .f32)
    (i : Fin 512) (o : Fin 128) : EReal :=
  (∑ e : Fin 384, tk (ix2 i e) * w (ix2 e o)) + ∑ l : Fin 33, atf (ix2 i l) * w' (ix2 l o)

/-- The row part of a row's pair embedding. -/
def rowPart (i : Fin 512) (o : Fin 128) : EReal :=
  part (tokens m c) (V m c main_v15) (V m c main_v6) (V m c main_v16) i o

/-- What the kernel computes for the pair `i`, `j`. -/
def pairOut (i j : Fin 512) (o : Fin 128) : EReal :=
  pairEntry (fun k => (V m c main_v26 : IVec S512x8 32) (ix2 i k)) (fun k => (V m c main_v27 : IVec S8x512 32) (ix2 k j))
    ((V m c main_v29 : FVec Ideal S512x512 .f32) (ix2 i j)) ((V m c main_v30 : FVec Ideal S512x512 .f32) (ix2 i j)) i j
    (fun k => (m ((c : Thread nD τ).loc main_arg26) : FVec Ideal S139x128 .f32) (ix2 k o)) (rowPart m c i o)
    ((m ((c : Thread nD τ).loc main_arg27) : FVec Ideal S1x128 .f32) (ix2 0 o)) (cols m c (ix2 j o))

/-- The stacked one-hot columns against the stacked weights, at variable operands. -/
theorem stacked (i : Fin 512) (t k : ℕ) (hi : i.val = 32 * t + k) (ht : t < 16) (hk : k < 32) (j : Fin 512) (x y : Fin 8 → BitVec 32) (b b' : EReal) (W : Fin 200 → EReal)
    (wr : Fin 139 → EReal) (P : Fin 32 → EReal) (B q : EReal)
    (S : Fin 160 → EReal)
    (hS : ∀ k : Fin 160, S k = if h : (k : ℕ) < 66 then wr ⟨k, by omega⟩
        else if (k : ℕ) - 66 < 6 then (0 : EReal)
        else if h : (k : ℕ) - 66 - 6 < 66 then wr ⟨66 + (k - 66 - 6), by omega⟩
        else if (k : ℕ) - 66 - 6 - 66 < 6 then (0 : EReal)
        else if (k : ℕ) - 66 - 6 - 66 - 6 < 1 then wr ⟨132, by omega⟩
        else if (k : ℕ) - 66 - 6 - 66 - 6 - 1 < 7 then (0 : EReal)
        else if h : (k : ℕ) - 66 - 6 - 66 - 6 - 1 - 7 < 6 then wr ⟨133 + (k - 66 - 6 - 66 - 6 - 1 - 7), by omega⟩
        else (0 : EReal))
    (hW : ∀ c : Fin 200, W c = if h : c.val < 160 then S ⟨c.val, h⟩ else if h : c.val - 160 < 32 then P ⟨c.val - 160, h⟩
        else if h : c.val - 160 - 32 < 1 then B else 0) :
    (∑ c : Fin 200, column (both (x 5) (y 5)) (IntOp.cmpi .eq (x 3) (y 3))
          (dist (IntOp.cmpi .eq (x 2) (y 2)) (x 0) (y 0) 32#32 64#32 65#32)
          (dist (IntOp.cmpi .eq (x 2) (y 2)) (x 1) (y 1) 32#32 64#32 65#32)
          (dist (IntOp.cmpi .eq (x 3) (y 3)) (x 4) (y 4) 2#32 4#32 5#32)
          (Scalar.select (IntOp.cmpi .eq (BitVec.ofNat 32 j.val) (IntOp.addi (Scalar.muli (BitVec.ofNat 32 t) 32#32) (BitVec.ofNat 32 k))) 0
            (max b b')) k c.val * W c) + q = pairEntry x y b b' i j wr (P ⟨k, hk⟩) B q := by
  rw [diag_word t k j _ ht hk j.isLt]
  unfold pairEntry
  rw [row_sum _ _ _ _ _ _ ⟨k, hk⟩ W wr P B]
  · rw [if_congr (show 32 * t + k = j.val ↔ i = j by rw [Fin.ext_iff, hi]) rfl rfl]
  · intro c; have := c.isLt
    rw [hW, dif_pos (by dsimp only; omega), hS, dif_pos (by dsimp only; omega)]
  · intro c; have := c.isLt
    rw [hW, dif_pos (by dsimp only; omega), hS, dif_neg (by dsimp only; omega), if_pos (by dsimp only; omega)]
  · intro c; have := c.isLt
    rw [hW, dif_pos (by dsimp only; omega), hS, dif_neg (by dsimp only; omega), if_neg (by dsimp only; omega), dif_pos (by dsimp only; omega)]
    exact congrArg wr (Fin.ext (by dsimp only; omega))
  · intro c; have := c.isLt
    rw [hW, dif_pos (by dsimp only; omega), hS, dif_neg (by dsimp only; omega), if_neg (by dsimp only; omega), dif_neg (by dsimp only; omega), if_pos (by dsimp only; omega)]
  · rw [hW, dif_pos (by decide), hS, dif_neg (by decide), if_neg (by decide), dif_neg (by decide), if_neg (by decide), if_pos (by decide)]
  · intro c; have := c.isLt
    rw [hW, dif_pos (by dsimp only; omega), hS, dif_neg (by dsimp only; omega), if_neg (by dsimp only; omega), dif_neg (by dsimp only; omega), if_neg (by dsimp only; omega),
      if_neg (by dsimp only; omega), if_neg (by dsimp only; omega), dif_pos (by dsimp only; omega)]
    exact congrArg wr (Fin.ext (by dsimp only; omega))
  · intro c; have := c.isLt
    rw [hW, dif_pos (by dsimp only; omega), hS, dif_neg (by dsimp only; omega), if_neg (by dsimp only; omega), dif_neg (by dsimp only; omega), if_neg (by dsimp only; omega),
      if_neg (by dsimp only; omega), if_neg (by dsimp only; omega), dif_neg (by dsimp only; omega)]
  · intro c; have := c.isLt
    rw [hW, dif_neg (by dsimp only; omega), dif_pos (by dsimp only; omega)]
    exact congrArg P (Fin.ext (by dsimp only; omega))
  · rw [hW, dif_neg (by decide), dif_neg (by decide), dif_pos (by decide)]

/-- The tile's weights, at variable operands. -/
theorem weights_part (tk : FVec Ideal S512x384 .f32) (w : FVec Ideal S384x128 .f32) (atf : FVec Ideal S512x33 .f32) (w' : FVec Ideal S33x128 .f32)
    (S : FVec Ideal S160x128 .bf16) (B : FVec Ideal S1x128 .f32) (r : Fin 32 → Fin 512) (A : FVec Ideal S32x384 .f32) (A' : FVec Ideal S32x33 .f32)
    (hA : ∀ (k : Fin 32) (e : Fin 384), A (ix2 k e) = tk (ix2 (r k) e)) (hA' : ∀ (k : Fin 32) (l : Fin 33), A' (ix2 k l) = atf (ix2 (r k) l))
    (c : Fin 200) (o : Fin 128) :
    k0_pay27 (F := Ideal) A (k0_pay26 (F := Ideal) w) (constant S32x128 .f32 0#32) A' w' S B (ix2 c o)
      = if h : c.val < 160 then S (ix2 ⟨c.val, h⟩ o) else if h : c.val - 160 < 32 then part tk w atf w' (r ⟨c.val - 160, h⟩) o
        else if h : c.val - 160 - 32 < 1 then B (ix2 0 o) else 0 := by
  rw [weights_at]
  simp only [hA, hA']
  split
  · rfl
  · split
    · rfl
    · split
      · exact congrArg (fun z : Fin 1 => B (ix2 z o)) (Subsingleton.elim _ _)
      · rfl

/-- One row of a tile. -/
theorem row_value (t : Fin cfg0.N) (A : FVec Ideal S32x384 .f32) (A' : FVec Ideal S32x33 .f32)
    (hA : ∀ (k : Fin 32) (e : Fin 384), A (ix2 k e) = tokens m c (ix2 ⟨32 * t.val + k, row_lt t k⟩ e))
    (hA' : ∀ (k : Fin 32) (l : Fin 33), A' (ix2 k l) = (V m c main_v6 : FVec Ideal S512x33 .f32) (ix2 ⟨32 * t.val + k, row_lt t k⟩ l))
    (k : Fin 32) (j : Fin 512) (o : Fin 128) :
    (∑ x : Fin 200, onehots (BitVec.ofNat 32 (grid0.coords t 0).val) (iblk m c 15 t) (iblk m c 16 t) (iblk m c 17 t) (iblk m c 18 t) (ix3 k x j)
        * k0_pay27 (F := Ideal) A (k0_pay26 (F := Ideal) (iblk m c 11 t)) (constant S32x128 .f32 0#32) A' (iblk m c 12 t) (iblk m c 19 t) (iblk m c 20 t) (ix2 x o))
      + cols m c (ix2 j o) = pairOut m c ⟨32 * t.val + k, row_lt t k⟩ j o := by
  have ht : t.val < 16 := lt_of_lt_of_eq t.isLt N_0
  rw [coord_val, iblk11, iblk12, iblk16, iblk19, iblk20]
  simp only [onehots_at, iblk15, iblk17, iblk18]
  refine stacked ⟨32 * t.val + k, row_lt t k⟩ t.val k.val rfl ht k.isLt j (fun z => (V m c main_v26 : IVec S512x8 32) (ix2 ⟨32 * t.val + k, row_lt t k⟩ z))
    (fun z => (V m c main_v27 : IVec S8x512 32) (ix2 z j)) ((V m c main_v29 : FVec Ideal S512x512 .f32) (ix2 ⟨32 * t.val + k, row_lt t k⟩ j))
    ((V m c main_v30 : FVec Ideal S512x512 .f32) (ix2 ⟨32 * t.val + k, row_lt t k⟩ j)) _ (fun z => (m ((c : Thread nD τ).loc main_arg26) : FVec Ideal S139x128 .f32) (ix2 z o))
    (fun k => rowPart m c ⟨32 * t.val + k, row_lt t k⟩ o) ((m ((c : Thread nD τ).loc main_arg27) : FVec Ideal S1x128 .f32) (ix2 0 o)) (cols m c (ix2 j o))
    (fun k => (V m c main_v49 : FVec Ideal S160x128 .bf16) (ix2 k o)) (fun k => stack_at m c k o) ?_
  intro x
  exact weights_part (tokens m c) (V m c main_v15) (V m c main_v6) (V m c main_v16) (V m c main_v49) (m ((c : Thread nD τ).loc main_arg27))
    (fun k => ⟨32 * t.val + k, row_lt t k⟩) A A' hA hA' x o

end Cert.KernelIdeal.Values
-- ==== Proof.Values.Pair.lean ====
/- The pair block left at each point. -/
module

public import proofs.«01_k».proof.Proof.Values.Scratch
public import proofs.«01_k».proof.Proof.Values.Entry
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelIdeal.Values

open Cert.KernelIdeal Cert.KernelIdeal.Gen Cert.KernelIdeal.Region Cert.Embed
open Idealize.ShloMosaic Idealize.ShloMosaic.TcCoe Idealize.SL.Sem
open Idealize.ShloMosaic.Pipeline (Dat)

variable (m : (ℓ : Loc nD τ sig) → Buf (Elt Ideal) ℓ) (c : Dev nD)

theorem off1_val : ∀ t : Fin cfg0.N, k0_off1 (grid0.coords t) = ![32 * t.val, 0] := (by decide +kernel : ∀ t : Fin grid0.N, _)
theorem off2_val : ∀ t : Fin cfg0.N, k0_off2 (grid0.coords t) = ![32 * t.val, 0] := (by decide +kernel : ∀ t : Fin grid0.N, _)

theorem tile_tokens (t : Fin cfg0.N) (hb : ∀ a, k0_off1 (grid0.coords t) a + (![32, 384] : Fin 2 → ℕ) a ≤ S512x384.size a) (k : Fin 32) (e : Fin 384) :
    (Rect.unit (s := S512x384) (k0_off1 (grid0.coords t)) ![32, 384] hb).idx (ix2 k e) = (ix2 ⟨32 * t.val + k, row_lt t k⟩ e : S512x384.Idx) := by
  have h0 := congrFun (off1_val t) 0
  have h1 := congrFun (off1_val t) 1
  funext a
  apply Fin.ext
  fin_cases a
  · show k0_off1 (grid0.coords t) 0 + 1 * k.val = 32 * t.val + k.val
    rw [h0, one_mul]; rfl
  · show k0_off1 (grid0.coords t) 1 + 1 * e.val = e.val
    rw [h1, one_mul]; exact zero_add _

theorem tile_feats (t : Fin cfg0.N) (hb : ∀ a, k0_off2 (grid0.coords t) a + (![32, 33] : Fin 2 → ℕ) a ≤ S512x33.size a) (k : Fin 32) (e : Fin 33) :
    (Rect.unit (s := S512x33) (k0_off2 (grid0.coords t)) ![32, 33] hb).idx (ix2 k e) = (ix2 ⟨32 * t.val + k, row_lt t k⟩ e : S512x33.Idx) := by
  have h0 := congrFun (off2_val t) 0
  have h1 := congrFun (off2_val t) 1
  funext a
  apply Fin.ext
  fin_cases a
  · show k0_off2 (grid0.coords t) 0 + 1 * k.val = 32 * t.val + k.val
    rw [h0, one_mul]; rfl
  · show k0_off2 (grid0.coords t) 1 + 1 * e.val = e.val
    rw [h1, one_mul]; exact zero_add _

set_option maxHeartbeats 1600000 in
theorem pair_rest (t : Fin cfg0.N) (h0 : ¬t.val % 16 = 0) (h1 : ¬t.val % 16 = 1) (y : S32x512x128.Idx) :
    ((leftAt m c t.val t.isLt).2.1 : FVec Ideal S32x512x128 .f32) y = pairOut m c ⟨32 * t.val + y 0, row_lt t (y 0)⟩ (y 1) (y 2) := by
  rw [leftAt_rest m c t h0 h1]
  frame_out
  rw [(scratch_at m c _ _).1, (scratch_at m c _ _).2]
  generalize hP : View.read (Elt Ideal) (View.whole cc0_scratch1) _ = P
  generalize hT : View.read (Elt Ideal) (View.whole cc0_scratch0) _ = T
  have hP' : P = cols m c := hP.symm.trans (by exact read_unread_whole (Val := Elt Ideal) cc0_scratch1 _ _)
  have hT' : T = tokens m c := hT.symm.trans (by exact read_unread_whole (Val := Elt Ideal) cc0_scratch0 _ _)
  subst hP' hT'
  clear hP hT
  simp only [row_pay28, row_pay29, row_pay30, row_pay31, row_pay32, row_pay33, row_pay34, row_pay35, row_pay36, row_pay37, row_pay38, row_pay39, row_pay40, row_pay41, row_pay42, row_pay43, row_pay44, row_pay45, row_pay46, row_pay47, row_pay48, row_pay49, row_pay50, row_pay51, row_pay52, row_pay53, row_pay54, row_pay55, row_pay1, row_pay2, row_pay3, row_pay4]
  generalize hA : View.ld _ (Rect.unit (s := S512x384) (k0_off1 _) ![32, 384] _) = A
  generalize hB : View.ld _ (Rect.unit (s := S512x33) (k0_off2 _) ![32, 33] _) = B
  have hA' : ∀ (k : Fin 32) (e : Fin 384), A (ix2 k e) = tokens m c (ix2 ⟨32 * t.val + k, row_lt t k⟩ e) := by
    intro k e
    rw [← hA]
    exact congrArg (tokens m c) (tile_tokens t _ k e)
  have hB' : ∀ (k : Fin 32) (l : Fin 33), B (ix2 k l) = (V m c main_v6 : FVec Ideal S512x33 .f32) (ix2 ⟨32 * t.val + k, row_lt t k⟩ l) := by
    intro k e
    rw [← hB, iblk3]
    exact congrArg (V m c main_v6 : FVec Ideal S512x33 .f32) (tile_feats t _ k e)
  clear hA hB
  have hr := row_value m c t A B hA' hB'
  generalize k0_pay27 (F := Ideal) _ _ _ _ _ _ _ = W at hr ⊢
  unfold onehots at hr
  generalize k0_pay25 (F := Ideal) _ _ _ _ _ _ _ _ = O at hr ⊢
  have hq : ∀ (q : Fin 32) (x : S1x512x128.Idx), rowAt q O (cols m c) W x = pairOut m c ⟨32 * t.val + q, row_lt t q⟩ (x 1) (x 2) := fun q x => hr q (x 1) (x 2)
  clear hA' hB' hr
  canon_tiles x h
  all_goals
    rw [hq]
    have hx : (x 0).val = 0 := by omega
    refine congr (congr (congrArg (pairOut m c) (Fin.ext ?_)) (Fin.ext h1.symm)) (Fin.ext h2.symm)
    dsimp only
    rw [h0, hx]
    try rfl

set_option maxHeartbeats 1600000 in
theorem pair_second (t : Fin cfg0.N) (h0 : ¬t.val % 16 = 0) (h1 : t.val % 16 = 1) (y : S32x512x128.Idx) :
    ((leftAt m c t.val t.isLt).2.1 : FVec Ideal S32x512x128 .f32) y = pairOut m c ⟨32 * t.val + y 0, row_lt t (y 0)⟩ (y 1) (y 2) := by
  rw [leftAt_second m c t h0 h1]
  frame_out
  rw [(scratch_at m c _ _).1, (scratch_at m c _ _).2]
  generalize hP : View.read (Elt Ideal) (View.whole cc0_scratch1) _ = P
  generalize hT : View.read (Elt Ideal) (View.whole cc0_scratch0) _ = T
  have hP' : P = cols m c := hP.symm.trans (by exact read_unread_whole (Val := Elt Ideal) cc0_scratch1 _ _)
  have hT' : T = tokens m c := hT.symm.trans (by exact read_unread_whole (Val := Elt Ideal) cc0_scratch0 _ _)
  subst hP' hT'
  clear hP hT
  simp only [row_pay28, row_pay29, row_pay30, row_pay31, row_pay32, row_pay33, row_pay34, row_pay35, row_pay36, row_pay37, row_pay38, row_pay39, row_pay40, row_pay41, row_pay42, row_pay43, row_pay44, row_pay45, row_pay46, row_pay47, row_pay48, row_pay49, row_pay50, row_pay51, row_pay52, row_pay53, row_pay54, row_pay55, row_pay1, row_pay2, row_pay3, row_pay4]
  generalize hA : View.ld _ (Rect.unit (s := S512x384) (k0_off1 _) ![32, 384] _) = A
  generalize hB : View.ld _ (Rect.unit (s := S512x33) (k0_off2 _) ![32, 33] _) = B
  have hA' : ∀ (k : Fin 32) (e : Fin 384), A (ix2 k e) = tokens m c (ix2 ⟨32 * t.val + k, row_lt t k⟩ e) := by
    intro k e
    rw [← hA]
    exact congrArg (tokens m c) (tile_tokens t _ k e)
  have hB' : ∀ (k : Fin 32) (l : Fin 33), B (ix2 k l) = (V m c main_v6 : FVec Ideal S512x33 .f32) (ix2 ⟨32 * t.val + k, row_lt t k⟩ l) := by
    intro k e
    rw [← hB, iblk3]
    exact congrArg (V m c main_v6 : FVec Ideal S512x33 .f32) (tile_feats t _ k e)
  clear hA hB
  have hr := row_value m c t A B hA' hB'
  generalize k0_pay27 (F := Ideal) _ _ _ _ _ _ _ = W at hr ⊢
  unfold onehots at hr
  generalize k0_pay25 (F := Ideal) _ _ _ _ _ _ _ _ = O at hr ⊢
  have hq : ∀ (q : Fin 32) (x : S1x512x128.Idx), rowAt q O (cols m c) W x = pairOut m c ⟨32 * t.val + q, row_lt t q⟩ (x 1) (x 2) := fun q x => hr q (x 1) (x 2)
  clear hA' hB' hr
  canon_tiles x h
  all_goals
    rw [hq]
    have hx : (x 0).val = 0 := by omega
    refine congr (congr (congrArg (pairOut m c) (Fin.ext ?_)) (Fin.ext h1.symm)) (Fin.ext h2.symm)
    dsimp only
    rw [h0, hx]
    try rfl

set_option maxHeartbeats 1600000 in
theorem pair_first (t : Fin cfg0.N) (h0 : t.val % 16 = 0) (h1 : ¬t.val % 16 = 1) (y : S32x512x128.Idx) :
    ((leftAt m c t.val t.isLt).2.1 : FVec Ideal S32x512x128 .f32) y = pairOut m c ⟨32 * t.val + y 0, row_lt t (y 0)⟩ (y 1) (y 2) := by
  rw [leftAt_first m c t h0 h1]
  frame_out
  generalize hP : k0_pay8 (F := Ideal) _ _ _ = P
  generalize hT : k0_pay6 (F := Ideal) _ _ _ _ = T
  have hP' : P = cols m c := by rw [← hP, iblk0, iblk1, iblk2, iblk3, iblk4, iblk13, iblk14]; rfl
  have hT' : T = tokens m c := by rw [← hT, iblk0, iblk1, iblk2, iblk4]; rfl
  subst hP' hT'
  clear hP hT
  simp only [row_pay28, row_pay29, row_pay30, row_pay31, row_pay32, row_pay33, row_pay34, row_pay35, row_pay36, row_pay37, row_pay38, row_pay39, row_pay40, row_pay41, row_pay42, row_pay43, row_pay44, row_pay45, row_pay46, row_pay47, row_pay48, row_pay49, row_pay50, row_pay51, row_pay52, row_pay53, row_pay54, row_pay55, row_pay1, row_pay2, row_pay3, row_pay4]
  generalize hA : View.ld _ (Rect.unit (s := S512x384) (k0_off1 _) ![32, 384] _) = A
  generalize hB : View.ld _ (Rect.unit (s := S512x33) (k0_off2 _) ![32, 33] _) = B
  have hA' : ∀ (k : Fin 32) (e : Fin 384), A (ix2 k e) = tokens m c (ix2 ⟨32 * t.val + k, row_lt t k⟩ e) := by
    intro k e
    rw [← hA]
    exact congrArg (tokens m c) (tile_tokens t _ k e)
  have hB' : ∀ (k : Fin 32) (l : Fin 33), B (ix2 k l) = (V m c main_v6 : FVec Ideal S512x33 .f32) (ix2 ⟨32 * t.val + k, row_lt t k⟩ l) := by
    intro k e
    rw [← hB, iblk3]
    exact congrArg (V m c main_v6 : FVec Ideal S512x33 .f32) (tile_feats t _ k e)
  clear hA hB
  have hr := row_value m c t A B hA' hB'
  generalize k0_pay27 (F := Ideal) _ _ _ _ _ _ _ = W at hr ⊢
  unfold onehots at hr
  generalize k0_pay25 (F := Ideal) _ _ _ _ _ _ _ _ = O at hr ⊢
  have hq : ∀ (q : Fin 32) (x : S1x512x128.Idx), rowAt q O (cols m c) W x = pairOut m c ⟨32 * t.val + q, row_lt t q⟩ (x 1) (x 2) := fun q x => hr q (x 1) (x 2)
  clear hA' hB' hr
  canon_tiles x h
  all_goals
    rw [hq]
    have hx : (x 0).val = 0 := by omega
    refine congr (congr (congrArg (pairOut m c) (Fin.ext ?_)) (Fin.ext h1.symm)) (Fin.ext h2.symm)
    dsimp only
    rw [h0, hx]
    try rfl

/-- What a point leaves in the pair's block. -/
theorem pair_point (t : Fin cfg0.N) (y : S32x512x128.Idx) :
    ((leftAt m c t.val t.isLt).2.1 : FVec Ideal S32x512x128 .f32) y = pairOut m c ⟨32 * t.val + y 0, row_lt t (y 0)⟩ (y 1) (y 2) := by
  by_cases h0 : t.val % 16 = 0
  · exact pair_first m c t h0 (by omega) y
  · by_cases h1 : t.val % 16 = 1
    · exact pair_second m c t h0 h1 y
    · exact pair_rest m c t h0 h1 y

/-- The pair result's array after the grid. -/
theorem final22 : (dats m 0 c).arrAt 22 (cfgs 0).N = fun i : S512x512x128.Idx => pairOut m c (i 0) (i 1) (i 2) := by
  refine (dats m 0 c).arrAt_eq_of_covers 22 _ (by decide +kernel) fun t hf y => ?_
  blk_simp
  rw [after0_22]
  refine (pair_point m c t y).trans ?_
  refine congr (congr (congrArg (pairOut m c) (Fin.ext ?_)) (Fin.ext ?_)) (Fin.ext ?_)
  all_goals (blk_simp [idx_val t] <;> try (dsimp only; omega))

end Cert.KernelIdeal.Values
-- ==== Proof.Values.Single.lean ====
/- The single array left after the grid. -/
module

public import proofs.«01_k».proof.Proof.Values.Scratch
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelIdeal.Values

open Cert.KernelIdeal Cert.KernelIdeal.Gen Cert.KernelIdeal.Region Cert.Embed
open Idealize.ShloMosaic Idealize.ShloMosaic.TcCoe Idealize.SL.Sem
open Idealize.ShloMosaic.Pipeline (Dat)

variable (m : (ℓ : Loc nD τ sig) → Buf (Elt Ideal) ℓ) (c : Dev nD)

/-- The single embedding. -/
def singleOut : FVec Ideal S512x384 .f32 :=
  k0_pay9 (F := Ideal) (V m c main_v8) (tokens m c) (V m c main_v13) (V m c main_v6) (V m c main_v14) (m ((c : Thread nD τ).loc main_arg20)) (V m c main_v11) (V m c main_v12)

theorem single_second (t : Fin cfg0.N) (h0 : ¬t.val % 16 = 0) (h1 : t.val % 16 = 1) :
    (leftAt m c t.val t.isLt).1 = singleOut m c := by
  rw [leftAt_second m c t h0 h1]
  frame_out
  rw [(scratch_at m c _ _).1]
  generalize hT : View.read (Elt Ideal) (View.whole cc0_scratch0) _ = T
  have hT' : T = tokens m c := hT.symm.trans (by exact read_unread_whole (Val := Elt Ideal) cc0_scratch0 _ _)
  subst hT'
  rw [iblk7, iblk5, iblk3, iblk6, iblk8, iblk9, iblk10]
  rfl

theorem single_after (n : ℕ) (hn : n < cfg0.N) (h : 1 ≤ n) : (leftAt m c n hn).1 = singleOut m c := by
  induction n with
  | zero => omega
  | succ n ih =>
    have hN : n + 1 < 16 := lt_of_lt_of_eq hn N_0
    have h0 : ¬(n + 1) % 16 = 0 := by omega
    by_cases h1 : (n + 1) % 16 = 1
    · exact single_second m c ⟨n + 1, hn⟩ h0 h1
    · have e := leftAt_rest m c ⟨n + 1, hn⟩ h0 h1
      have e0 := congrArg (fun x => x.1) e
      dsimp only at e0
      exact e0.trans (ih _ (by omega))

/-- The single result's array after the grid. -/
theorem final21 : (dats m 0 c).arrAt 21 (cfgs 0).N = singleOut m c := by
  refine (dats m 0 c).arrAt_eq_of_after_last 21 t0_15 (by decide +kernel) _ fun j => ?_
  blk_simp
  rw [after0_21, single_after m c _ _ (by decide)]

end Cert.KernelIdeal.Values
-- ==== Proof.Join.Tail.lean ====
/- The results, after the host operations that follow the region. -/
module

public import proofs.«01_k».proof.Proof.Values.Pair
public import proofs.«01_k».proof.Proof.Values.Single
public import proofs.«01_k».proof.Proof.Region.Frame

@[expose] public section

set_option maxRecDepth 16384

noncomputable section

namespace Cert.KernelIdeal.Values

open Cert.KernelIdeal Cert.KernelIdeal.Gen Cert.KernelIdeal.Region
open Idealize.ShloMosaic Idealize.ShloMosaic.TcCoe Idealize.SL.Sem

/-- Which tokens there are: those of a positive length. -/
def present (x : IVec S512 32) : IVec S1x512 1 :=
  broadcastInDim S1x512 ![1] bcast_S512_S1x512_1 (cmpi .sgt x (broadcastInDim S512 ![] bcast_S_S512 (constantI S_ 32 0#32)))

/-- Which pairs there are: those both of whose tokens there are. -/
def presentPairs (p : IVec S1x512 1) : IVec S1x512x512 1 :=
  andi (broadcastInDim S1x512x512 ![0, 1, 2] bcast_S1x512x1_S1x512x512_0_1_2 (broadcastInDim S1x512x1 ![0, 1] bcast_S1x512_S1x512x1_0_1 p))
    (broadcastInDim S1x512x512 ![0, 1, 2] bcast_S1x1x512_S1x512x512_0_1_2 (broadcastInDim S1x1x512 ![0, 2] bcast_S1x512_S1x1x512_0_2 p))

section Suffix

variable (σ : Valuation τ sig (Elt Ideal))

theorem suffix59 : StableHlo.after (hostOps1 (F := Ideal)) σ (Proc.devRef .tc main_v59)
    = broadcastInDim S1x512x384 ![1, 2] bcast_S512x384_S1x512x384_1_2 (σ (Proc.devRef .tc main_v50_0) : FVec Ideal S512x384 .f32) := by
  unfold hostOps1
  after_results

theorem suffix60 : StableHlo.after (hostOps1 (F := Ideal)) σ (Proc.devRef .tc main_v60)
    = broadcastInDim S1x512x512x128 ![1, 2, 3] bcast_S512x512x128_S1x512x512x128_1_2_3 (σ (Proc.devRef .tc main_v50_1) : FVec Ideal S512x512x128 .f32) := by
  unfold hostOps1
  after_results

theorem suffix53 : StableHlo.after (hostOps1 (F := Ideal)) σ (Proc.devRef .tc main_v53)
    = present (σ (Proc.devRef .tc main_v3)) := by
  unfold hostOps1
  after_results
  rfl

theorem suffix58 : StableHlo.after (hostOps1 (F := Ideal)) σ (Proc.devRef .tc main_v58)
    = presentPairs (present (σ (Proc.devRef .tc main_v3))) := by
  unfold hostOps1
  after_results
  rfl

end Suffix

variable (m : (ℓ : Loc nD τ sig) → Buf (Elt Ideal) ℓ) (c : Dev nD)

/-- The lengths, none below zero. -/
def lengths : IVec S512 32 :=
  maxsi (shapeCast S512 (m ((c : Thread nD τ).loc main_arg8) : IVec S1x512 32) shapeCasts_S1x512_S512) (broadcastInDim S512 ![] bcast_S_S512 (constantI S_ 32 0#32))

theorem lengths_entry : (V0 m c (Proc.devRef .tc main_v3) : IVec S512 32) = lengths m c := by
  funext i
  simp only [V0, List.flatten_cons, List.flatten_nil, List.append_nil, List.cons_append, List.nil_append]
  entry_read; rfl

/-- The contents the suffix starts from. -/
abbrev ended : Valuation τ sig (Elt Ideal) :=
  Pipeline.withArrays (cfgs 0).spec c (V0 m c) fun w => (dats m 0 c).arrAt w (cfgs 0).N

theorem ended_single : ended m c (Proc.devRef .tc main_v50_0) = singleOut m c :=
  (Pipeline.withArrays_arr (cfgs 0).spec launch0.win.arr_inj c (V0 m c) _ 21).trans (final21 m c)

theorem ended_pair : ended m c (Proc.devRef .tc main_v50_1) = fun i : S512x512x128.Idx => pairOut m c (i 0) (i 1) (i 2) :=
  (Pipeline.withArrays_arr (cfgs 0).spec launch0.win.arr_inj c (V0 m c) _ 22).trans (final22 m c)

theorem ended_lengths : ended m c (Proc.devRef .tc main_v3) = lengths m c :=
  (Pipeline.withArrays_of_ne _ c (V0 m c) _ main_v3 (by exact (by decide : ∀ w, Pipeline.arrRef spec0 w ≠ main_v3))).trans (lengths_entry m c)

theorem tail_eq (b : Ref sig .tc) : Pipeline.afterTail₀ cfgs (dats m) 0 (V0 m) [hostOps1] c b
    = StableHlo.after (hostOps1 (F := Ideal)) (ended m c) (Proc.devRef .tc b) := rfl

/-- The kernel's results. -/
theorem results (ρ : Dev nD → PrngReg) : θ_run (defs (F := Ideal)) (onTc (τ := τ) (main (F := Ideal))) ⟨m, fun _ => 0, ρ⟩ (fun r => ∀ c : Dev nD,
      r.2.mem ((c.tc : Thread nD τ).loc main_v59) = broadcastInDim S1x512x384 ![1, 2] bcast_S512x384_S1x512x384_1_2 (singleOut m c)
      ∧ r.2.mem ((c.tc : Thread nD τ).loc main_v53) = present (lengths m c)
      ∧ r.2.mem ((c.tc : Thread nD τ).loc main_v60) = broadcastInDim S1x512x512x128 ![1, 2, 3] bcast_S512x512x128_S1x512x512x128_1_2_3 (fun i : S512x512x128.Idx => pairOut m c (i 0) (i 1) (i 2))
      ∧ r.2.mem ((c.tc : Thread nD τ).loc main_v58) = presentPairs (present (lengths m c))) :=
  (θ_run defs _ _).mono (fun r h c =>
    ⟨((h c).2 main_v59 (Pipeline.mem_restRefs_of main_v59 (by decide) (by decide))).trans
        ((tail_eq m c main_v59).trans ((suffix59 (ended m c)).trans (congrArg (broadcastInDim S1x512x384 ![1, 2] bcast_S512x384_S1x512x384_1_2) (ended_single m c)))),
      ((h c).2 main_v53 (Pipeline.mem_restRefs_of main_v53 (by decide) (by decide))).trans
        ((tail_eq m c main_v53).trans ((suffix53 (ended m c)).trans (congrArg present (ended_lengths m c)))),
      ((h c).2 main_v60 (Pipeline.mem_restRefs_of main_v60 (by decide) (by decide))).trans
        ((tail_eq m c main_v60).trans ((suffix60 (ended m c)).trans (congrArg (broadcastInDim S1x512x512x128 ![1, 2, 3] bcast_S512x512x128_S1x512x512x128_1_2_3) (ended_pair m c)))),
      ((h c).2 main_v58 (Pipeline.mem_restRefs_of main_v58 (by decide) (by decide))).trans
        ((tail_eq m c main_v58).trans ((suffix58 (ended m c)).trans (congrArg (fun x => presentPairs (present x)) (ended_lengths m c))))⟩)
    (run_main m ρ)

end Cert.KernelIdeal.Values

end
-- ==== Proof.Embed.KernelToken.lean ====
/- What the kernel's first step keeps and its second step stores, read at an index. -/
module

public import proofs.«01_k».proof.Proof.Gen.KernelIdeal.Skeleton
public import proofs.«01_k».proof.Proof.Embed.Basic

@[expose] public section

set_option maxRecDepth 16384

noncomputable section

namespace Cert.Embed

open Idealize.ShloMosaic Idealize.ShloMosaic.TcCoe Idealize.SL.Sem
open Cert.KernelIdeal Cert.KernelIdeal.Gen

/-- The token features that the first step computes. -/
theorem pay5_at (ai : FVec Ideal S4320x77 .f32) (wa : FVec Ideal S77x128 .f32) (ln : FVec Ideal S512x1 .f32)
    (wt : FVec Ideal S128x384 .f32) (n : Fin 512 → ℕ) (hn : ∀ t : Fin 512, ln (ix2 t 0) = ((n t : ℕ) : EReal)) (t : Fin 512) (e : Fin 384) :
    k0_pay5 (F := Ideal) ai wa ln wt (ix2 t e)
      = token n (atom (fun a k => ai (ix2 a k)) fun k d => wa (ix2 k d)) (fun d e => wt (ix2 d e)) t e := by
  pointwise [k0_pay5]
  have hs : (∑ x : Fin 512, FloatOps.sitofp (F := Ideal) FTy.f32
      (BitVec.setWidth 32 (IntOp.cmpi CmpIPredicate.sge (BitVec.ofNat 32 t.val) (BitVec.ofNat 32 x.val))) * ln (ix2 x 0))
      = ((ends n t : ℕ) : EReal) := by
    rw [← ends_cast]
    refine Finset.sum_congr rfl fun x _ => ?_
    rw [sitofp_bit, hn, bit_ite_mul]
    refine if_congr ?_ rfl rfl
    rw [Idealize.ShloMosaic.WordCmp.cmpi_sge_ofNat_eq_one_iff (w := 32) (by omega) (by omega)]
    rfl
  unfold token pooled
  refine Finset.sum_congr rfl fun d _ => ?_
  refine congrArg (· * _) ?_
  refine congrArg₂ Ideal.div ?_ ?_
  · refine Finset.sum_congr rfl fun a _ => ?_
    rw [sitofp_bit, bit_ite_mul]
    refine if_congr ?_ rfl rfl
    rw [andi_eq_one, ofBool_eq_one, ofBool_eq_one, decide_eq_true_iff, decide_eq_true_iff, sitofp_ofNat _ (by omega)]
    erw [hs]
    rw [hn, natCast_sub_le, natCast_lt]
  · rw [hn]

theorem pay6_at (ai : FVec Ideal S4320x77 .f32) (wa : FVec Ideal S77x128 .f32) (ln : FVec Ideal S512x1 .f32)
    (wt : FVec Ideal S128x384 .f32) (n : Fin 512 → ℕ) (hn : ∀ t : Fin 512, ln (ix2 t 0) = ((n t : ℕ) : EReal)) (t : Fin 512) (e : Fin 384) :
    k0_pay6 (F := Ideal) ai wa ln wt (ix2 t e)
      = token n (atom (fun a k => ai (ix2 a k)) fun k d => wa (ix2 k d)) (fun d e => wt (ix2 d e)) t e := by
  rw [← pay5_at ai wa ln wt n hn]
  pointwise [k0_pay6]

/-- The column part of the pair embedding that the first step keeps. -/
theorem pay8_at (ai : FVec Ideal S4320x77 .f32) (wa : FVec Ideal S77x128 .f32) (ln : FVec Ideal S512x1 .f32)
    (wt : FVec Ideal S128x384 .f32) (wA : FVec Ideal S384x128 .f32) (atf : FVec Ideal S512x33 .f32) (wB : FVec Ideal S33x128 .f32)
    (n : Fin 512 → ℕ) (hn : ∀ t : Fin 512, ln (ix2 t 0) = ((n t : ℕ) : EReal)) (t : Fin 512) (o : Fin 128) :
    k0_pay8 (F := Ideal) (k0_pay7 ai wa ln wt wA) atf wB (ix2 t o)
      = proj (token n (atom (fun a k => ai (ix2 a k)) fun k d => wa (ix2 k d)) fun d e => wt (ix2 d e)) (fun t l => atf (ix2 t l))
          (fun e o => wA (ix2 e o)) (fun l o => wB (ix2 l o)) t o := by
  pointwise [k0_pay8, k0_pay7]
  unfold proj
  refine congrArg (· + _) (Finset.sum_congr rfl fun e _ => congrArg (· * _) ?_)
  exact pay5_at ai wa ln wt n hn t e

/-- The single embedding that the second step stores. -/
theorem pay9_at (id : IVec S512x1 32) (tk : FVec Ideal S512x384 .f32) (wA : FVec Ideal S384x384 .f32) (atf : FVec Ideal S512x33 .f32)
    (wB : FVec Ideal S33x384 .f32) (emb : FVec Ideal S33x384 .f32) (md : FVec Ideal S512x8 .f32) (wm : FVec Ideal S8x384 .f32)
    (t : Fin 512) (o : Fin 384) :
    k0_pay9 (F := Ideal) id tk wA atf wB emb md wm (ix2 t o)
      = (proj (fun t e => tk (ix2 t e)) (fun t l => atf (ix2 t l)) (fun e o => wA (ix2 e o)) (fun l o => wB (ix2 l o)) t o
          + ∑ x : Fin 33, if id (ix2 t 0) = BitVec.ofNat 32 x.val then emb (ix2 x o) else 0)
        + ∑ k : Fin 8, md (ix2 t k) * wm (ix2 k o) := by
  pointwise [k0_pay9]
  unfold proj
  refine congrArg (· + _) (congrArg₂ (· + ·) rfl (Finset.sum_congr rfl fun x _ => ?_))
  rw [sitofp_bit, bit_ite_mul]
  exact if_congr StableHlo.Predicate.cmpi_eq_iff rfl rfl

end Cert.Embed
end
-- ==== Proof.Join.Kernel.lean ====
/- The kernel's two arrays, entry by entry, over the arguments. -/
module

public import proofs.«01_k».proof.Proof.Values.Entry
public import proofs.«01_k».proof.Proof.Values.Single
public import proofs.«01_k».proof.Proof.Embed.KernelToken
public import Idealize.ShloMosaic.Lib.Claim

@[expose] public section

set_option maxRecDepth 16384

noncomputable section

namespace Cert.KernelIdeal.Values

open Cert.KernelIdeal Cert.KernelIdeal.Gen Cert.KernelIdeal.Region Cert.Embed
open Idealize.ShloMosaic Idealize.ShloMosaic.TcCoe Idealize.SL.Sem

section
variable (m : (ℓ : Loc nD τ sig) → Buf (Elt Ideal) ℓ) (c : Dev nD)

/-! The arguments, by what they hold. -/
def atomInputs : FVec Ideal S1x4320x77 .f32 := m ((c : Thread nD τ).loc main_arg0)
def bonds : IVec S1x512x512 1 := m ((c : Thread nD τ).loc main_arg6)
def tokenFeats : FVec Ideal S1x512x33 .f32 := m ((c : Thread nD τ).loc main_arg7)
def atomLens : IVec S1x512 32 := m ((c : Thread nD τ).loc main_arg8)
def molIds : IVec S1x512 32 := m ((c : Thread nD τ).loc main_arg10)
def molMods : IVec S1x512x4 1 := m ((c : Thread nD τ).loc main_arg11)
def molTypes : IVec S1x512x5 1 := m ((c : Thread nD τ).loc main_arg12)
def molFeats : IVec S1x512x5 32 := m ((c : Thread nD τ).loc main_arg13)
def wAtom : FVec Ideal S77x128 .f32 := m ((c : Thread nD τ).loc main_arg16)
def wToken : FVec Ideal S128x384 .f32 := m ((c : Thread nD τ).loc main_arg18)
def wSingle : FVec Ideal S417x384 .f32 := m ((c : Thread nD τ).loc main_arg19)
def molEmb : FVec Ideal S33x384 .f32 := m ((c : Thread nD τ).loc main_arg20)
def wRow : FVec Ideal S417x128 .f32 := m ((c : Thread nD τ).loc main_arg21)
def wCol : FVec Ideal S417x128 .f32 := m ((c : Thread nD τ).loc main_arg22)
def modEmb : FVec Ideal S4x384 .f32 := m ((c : Thread nD τ).loc main_arg25)
def wRel : FVec Ideal S139x128 .f32 := m ((c : Thread nD τ).loc main_arg26)
def wBond : FVec Ideal S1x128 .f32 := m ((c : Thread nD τ).loc main_arg27)

end

/-- The number of a token's atoms. -/
def count (x : IVec S1x512 32) (t : Fin 512) : ℕ := (x (ix2 0 t) : BitVec 32).toInt.toNat

/-- The tokens' features, over the arguments. -/
def features (ai : FVec Ideal S1x4320x77 .f32) (ln : IVec S1x512 32) (wa : FVec Ideal S77x128 .f32) (wt : FVec Ideal S128x384 .f32) : Fin 512 → Fin 384 → EReal :=
  token (count ln) (atom (fun a k => ai (ix3 0 a k)) fun k d => wa (ix2 k d)) (fun d e => wt (ix2 d e))

/-- A product of the tokens' features and additional features with a weight of 417 rows. -/
def product {o : ℕ} (tok : Fin 512 → Fin 384 → EReal) (atf : FVec Ideal S1x512x33 .f32) (w : Fin 417 → Fin o → EReal) (t : Fin 512) (j : Fin o) : EReal :=
  proj tok (fun t l => atf (ix3 0 t l)) (fun e j => w (Fin.castAdd 33 e) j) (fun l j => w (Fin.natAdd 384 l) j) t j

theorem count_word (x : BitVec 32) : FloatOps.sitofp (F := Ideal) FTy.f32 (IntOp.maxsi x 0#32) = ((x.toInt.toNat : ℕ) : EReal) := by
  have h : (IntOp.maxsi x 0#32).toInt = (x.toInt.toNat : ℤ) := by
    unfold IntOp.maxsi
    split
    · next h => simp [BitVec.slt] at h; simp; omega
    · next h => simp [BitVec.slt] at h; simp; omega
  show (((IntOp.maxsi x 0#32).toInt : ℝ) : EReal) = _
  rw [h, Int.cast_natCast]
  rfl

theorem proj_congr {o : ℕ} {tok tok' : Fin 512 → Fin 384 → EReal} {f f' : Fin 512 → Fin 33 → EReal} {a a' : Fin 384 → Fin o → EReal} {b b' : Fin 33 → Fin o → EReal}
    (t : Fin 512) (j : Fin o) (h1 : ∀ e, tok t e = tok' t e) (h2 : ∀ l, f t l = f' t l) (h3 : ∀ e, a e j = a' e j) (h4 : ∀ l, b l j = b' l j) :
    proj tok f a b t j = proj tok' f' a' b' t j :=
  congrArg₂ (· + ·) (Finset.sum_congr rfl fun e _ => congrArg₂ (· * ·) (h1 e) (h3 e)) (Finset.sum_congr rfl fun l _ => congrArg₂ (· * ·) (h2 l) (h4 l))

variable (m : (ℓ : Loc nD τ sig) → Buf (Elt Ideal) ℓ) (c : Dev nD)

theorem count_at (t : Fin 512) : (V m c main_v5 : FVec Ideal S512x1 .f32) (ix2 t 0) = ((count (atomLens m c) t : ℕ) : EReal) :=
  (lens_at m c t).trans (count_word _)

theorem tokens_at (t : Fin 512) (e : Fin 384) :
    tokens m c (ix2 t e) = features (atomInputs m c) (atomLens m c) (wAtom m c) (wToken m c) t e := by
  have h := pay6_at (V m c main_v0) (wAtom m c) (V m c main_v5) (wToken m c) (count (atomLens m c)) (count_at m c) t e
  refine Eq.trans h ?_
  have ha : (fun (a : Fin 4320) (k : Fin 77) => (V m c main_v0 : FVec Ideal S4320x77 .f32) (ix2 a k)) = fun a k => atomInputs m c (ix3 0 a k) :=
    funext fun a => funext fun k => atoms_at m c a k
  rw [ha]
  rfl

theorem cols_at (t : Fin 512) (o : Fin 128) :
    cols m c (ix2 t o) = product (features (atomInputs m c) (atomLens m c) (wAtom m c) (wToken m c)) (tokenFeats m c) (fun k o => wCol m c (ix2 k o)) t o := by
  have h := pay8_at (V m c main_v0) (wAtom m c) (V m c main_v5) (wToken m c) (V m c main_v17) (V m c main_v6) (V m c main_v18) (count (atomLens m c)) (count_at m c) t o
  refine Eq.trans h ?_
  have ha : (fun (a : Fin 4320) (k : Fin 77) => (V m c main_v0 : FVec Ideal S4320x77 .f32) (ix2 a k)) = fun a k => atomInputs m c (ix3 0 a k) :=
    funext fun a => funext fun k => atoms_at m c a k
  rw [ha]
  exact proj_congr t o (fun e => rfl) (fun l => feats_at m c t l) (fun e => col_a m c e o) (fun l => col_b m c l o)

theorem rows_at (t : Fin 512) (o : Fin 128) :
    rowPart m c t o = product (features (atomInputs m c) (atomLens m c) (wAtom m c) (wToken m c)) (tokenFeats m c) (fun k o => wRow m c (ix2 k o)) t o :=
  proj_congr (tok := fun t e => tokens m c (ix2 t e)) (f := fun t l => (V m c main_v6 : FVec Ideal S512x33 .f32) (ix2 t l))
    (a := fun e o => (V m c main_v15 : FVec Ideal S384x128 .f32) (ix2 e o)) (b := fun l o => (V m c main_v16 : FVec Ideal S33x128 .f32) (ix2 l o))
    t o (fun e => tokens_at m c t e) (fun l => feats_at m c t l) (fun e => row_a m c e o) (fun l => row_b m c l o)

/-- The modifications' rows: the four columns of padding add nothing. -/
theorem mods_sum (md : FVec Ideal S512x8 .f32) (wm : FVec Ideal S8x384 .f32) (x : IVec S1x512x4 1) (w : FVec Ideal S4x384 .f32) (t : Fin 512) (o : Fin 384)
    (h : ∀ k : Fin 8, md (ix2 t k) = if h : (k : ℕ) < 4 then FloatOps.uitofp (F := Ideal) FTy.f32 (x (ix3 0 t ⟨k, h⟩)) else (0 : EReal))
    (h' : ∀ k : Fin 8, wm (ix2 k o) = if h : (k : ℕ) < 4 then w (ix2 ⟨k, h⟩ o) else (0 : EReal)) :
    (∑ k : Fin 8, md (ix2 t k) * wm (ix2 k o)) = ∑ k : Fin 4, FloatOps.uitofp (F := Ideal) FTy.f32 (x (ix3 0 t k)) * w (ix2 k o) := by
  rw [show (∑ k : Fin 8, md (ix2 t k) * wm (ix2 k o)) = ∑ k : Fin (4 + 4), md (ix2 t k) * wm (ix2 k o) from rfl, Fin.sum_univ_add]
  have z : (∑ k : Fin 4, md (ix2 t (Fin.natAdd 4 k)) * wm (ix2 (Fin.natAdd 4 k) o)) = 0 := by
    refine Finset.sum_eq_zero fun k _ => ?_
    rw [h, dif_neg (by simp), zero_mul]
  rw [z, add_zero]
  refine Finset.sum_congr rfl fun k _ => ?_
  rw [h, h', dif_pos (show ((Fin.castAdd 4 k : Fin 8) : ℕ) < 4 from k.isLt), dif_pos (show ((Fin.castAdd 4 k : Fin 8) : ℕ) < 4 from k.isLt)]
  rfl

/-- The single embedding's entry. -/
theorem singleOut_at (t : Fin 512) (o : Fin 384) (b : Fin 33) (hb : molIds m c (ix2 0 t) = BitVec.ofNat 32 b.val) :
    singleOut m c (ix2 t o)
      = (product (features (atomInputs m c) (atomLens m c) (wAtom m c) (wToken m c)) (tokenFeats m c) (fun k o => wSingle m c (ix2 k o)) t o
          + molEmb m c (ix2 b o)) + ∑ k : Fin 4, FloatOps.uitofp (F := Ideal) FTy.f32 (molMods m c (ix3 0 t k)) * modEmb m c (ix2 k o) := by
  have h := pay9_at (V m c main_v8) (tokens m c) (V m c main_v13) (V m c main_v6) (V m c main_v14) (molEmb m c) (V m c main_v11) (V m c main_v12) t o
  refine Eq.trans h ?_
  refine congrArg₂ (· + ·) (congrArg₂ (· + ·) ?_ ?_) ?_
  · exact proj_congr t o (fun e => tokens_at m c t e) (fun l => feats_at m c t l) (fun e => single_a m c e o) (fun l => single_b m c l o)
  · rw [ids_at]
    refine sum_one_hot b (fun x => molEmb m c (ix2 x o)) _ fun i => ?_
    rw [show (m ((c : Thread nD τ).loc main_arg10) : IVec S1x512 32) (ix2 0 t) = BitVec.ofNat 32 b.val from hb]
    have hi := i.isLt
    have hbl := b.isLt
    constructor
    · intro e
      have := congrArg BitVec.toNat e
      simp only [BitVec.toNat_ofNat] at this
      exact Fin.ext (by omega)
    · intro e; rw [e]
  · exact mods_sum _ _ (molMods m c) (modEmb m c) t o (fun k => mods_at m c t k) (fun k => modEmb_at m c k o)

end Cert.KernelIdeal.Values
-- ==== Proof.Values.AnyBit.lean ====
/- `any` over the last axis of a bit array, with and without a leading unit axis. -/
module

public import proofs.«01_k».proof.Proof.Gen.KernelIdeal
public import proofs.«01_k».proof.Proof.Gen.ReferenceIdeal.Run
public import Idealize.ShloMosaic.Lib.ReduceAll
public import Idealize.ShloMosaic.Lib.Pointwise

@[expose] public section

noncomputable section

namespace Cert.Embed

open Idealize.ShloMosaic Idealize.ShloMosaic.TcCoe Idealize.SL.Sem

theorem foldl_ori_eq_one {ι : Type} (f : ι → BitVec 1) :
    ∀ (l : List ι) (init : BitVec 1), l.foldl (fun r n => IntOp.ori r (f n)) init = 1#1 ↔ (init = 1#1 ∨ ∃ n ∈ l, f n = 1#1)
  | [], init => by simp
  | a :: l, init => by
    rw [List.foldl_cons, foldl_ori_eq_one f l]
    have h : IntOp.ori init (f a) = 1#1 ↔ init = 1#1 ∨ f a = 1#1 := by
      generalize f a = b; revert init b; decide
    rw [h]
    simp only [List.mem_cons, exists_eq_or_imp, or_assoc]

theorem reduce_ori_eq_one {s t u : Shape} {axes : List (Fin s.rank)} (x : s.Idx → BitVec 1) (init : u.Idx → BitVec 1)
    (h : s.ReducesTo axes t) (hu : 0 < u.numel) (hi : ∀ i, init i = 0#1) (j : t.Idx) :
    Host.reduce IntOp.ori x init h hu j = 1#1 ↔ ∃ i, h.drop i = j ∧ x i = 1#1 := by
  rw [Host.reduce_eq_foldl, foldl_ori_eq_one, hi]
  simp only [List.mem_filter]
  constructor
  · rintro (h0 | ⟨n, ⟨_, hn⟩, hx⟩)
    · exact absurd h0 (by decide)
    · exact ⟨n, of_decide_eq_true hn, hx⟩
  · rintro ⟨i, hi, hx⟩
    exact Or.inr ⟨i, ⟨List.mem_map.2 ⟨s.rowMajor i, List.mem_finRange _, Equiv.symm_apply_apply _ _⟩, decide_eq_true hi⟩, hx⟩

theorem bit_ext {a b : BitVec 1} (h : a = 1#1 ↔ b = 1#1) : a = b := by
  revert a b; decide

/-- The `any` over the last axis does not see the leading unit axis. -/
theorem any_at (x : IVec Cert.KernelIdeal.S1x512x3 1) (t : Fin 512)
    (h : Cert.KernelIdeal.S512x3.ReducesTo [1] Cert.KernelIdeal.S512)
    (h' : Cert.ReferenceIdeal.S1x512x3.ReducesTo [2] Cert.ReferenceIdeal.S1x512)
    (hc : Cert.KernelIdeal.S1x512x3.ShapeCasts Cert.KernelIdeal.S512x3)
    (u : Shape) (hu : 0 < u.numel) :
    Host.reduce IntOp.ori (shapeCast Cert.KernelIdeal.S512x3 x hc) (constantI u 1 0#1) h hu (ix1 t)
      = Host.reduce IntOp.ori x (constantI u 1 0#1) h' hu (ix2 0 t) := by
  apply bit_ext
  refine (reduce_ori_eq_one _ _ _ _ (fun _ => rfl) _).trans (Iff.trans ?_ (reduce_ori_eq_one _ _ _ _ (fun _ => rfl) _).symm)
  have d1 : ∀ (a : Fin 512) (b : Fin 3), h.drop (ix2 a b) = ix1 a := fun a b => by
    funext k; fin_cases k; rfl
  have d2 : ∀ (z : Fin 1) (a : Fin 512) (b : Fin 3), h'.drop (ix3 z a b) = ix2 z a := fun z a b => by
    funext k; fin_cases k <;> rfl
  have e : ∀ (a : Fin 512) (b : Fin 3), shapeCast Cert.KernelIdeal.S512x3 x hc (ix2 a b) = x (ix3 0 a b) := fun a b => by
    pointwise
  constructor
  · rintro ⟨i, hi, hx⟩
    obtain ⟨a, b, rfl⟩ : ∃ (a : Fin 512) (b : Fin 3), i = ix2 a b := ⟨i 0, i 1, by funext k; fin_cases k <;> rfl⟩
    rw [d1] at hi
    have ha : a = t := congrFun hi 0
    subst ha
    exact ⟨ix3 0 a b, d2 0 a b, by rw [← e]; exact hx⟩
  · rintro ⟨i, hi, hx⟩
    obtain ⟨z, a, b, rfl⟩ : ∃ (z : Fin 1) (a : Fin 512) (b : Fin 3), i = ix3 z a b := ⟨i 0, i 1, i 2, by funext k; fin_cases k <;> rfl⟩
    rw [d2] at hi
    have ha : a = t := congrFun hi 1
    have hz : z = 0 := congrFun hi 0
    subst ha hz
    exact ⟨ix2 a b, d1 a b, by rw [e]; exact hx⟩

end Cert.Embed
end
-- ==== Proof.Embed.Segment.lean ====
/- The reference's segment sum: where its rows land, and which atoms a token takes. -/
module

public import proofs.«01_k».proof.Proof.Gen.ReferenceIdeal
public import proofs.«01_k».proof.Proof.Embed.Basic
public import Idealize.ShloMosaic.Lib.Routing.Ops
public import Idealize.ShloMosaic.Lib.Routing.OpsPair

@[expose] public section

set_option maxRecDepth 16384

noncomputable section

namespace Cert.Embed

open Idealize.ShloMosaic
open Cert.ReferenceIdeal

/-! ## Where a row lands -/

theorem row_start (idx : IVec S4320x1 32) (a : Fin 4320) (d : Fin 128) :
    scatter_S512x128_S4320x1_S4320x128_1_0_0_1.start (ix2 a d) idx 0 = (idx (ix2 a (0 : Fin 1))).toInt := by
  have hs : scatter_S512x128_S4320x1_S4320x128_1_0_0_1.siIdx (ix2 a d) ⟨0, by decide⟩ = ix2 a (0 : Fin 1) := by
    funext b
    apply Fin.ext
    match b with
    | ⟨0, _⟩ => rfl
    | ⟨1, _⟩ => rfl
  exact congrArg (fun i => (idx i).toInt) hs

theorem row_lands (idx : IVec S4320x1 32) (a : Fin 4320) (d : Fin 128) (t : Fin 512) (e : Fin 128) :
    scatter_S512x128_S4320x1_S4320x128_1_0_0_1.resultIdx? (ix2 a d) idx = some (ix2 t e)
      ↔ (idx (ix2 a (0 : Fin 1))).toInt = (t.val : ℤ) ∧ d = e := by
  rw [Routing.resultIdx?_eq_some]
  have hf : (∀ q : Fin 2, scatter_S512x128_S4320x1_S4320x128_1_0_0_1.start (ix2 a d) idx q
        + (scatter_S512x128_S4320x1_S4320x128_1_0_0_1.window (ix2 a d) q : ℤ) = (((ix2 t e : S512x128.Idx) q).val : ℤ))
      ↔ scatter_S512x128_S4320x1_S4320x128_1_0_0_1.start (ix2 a d) idx 0
          + (scatter_S512x128_S4320x1_S4320x128_1_0_0_1.window (ix2 a d) 0 : ℤ) = (t.val : ℤ)
        ∧ scatter_S512x128_S4320x1_S4320x128_1_0_0_1.start (ix2 a d) idx 1
          + (scatter_S512x128_S4320x1_S4320x128_1_0_0_1.window (ix2 a d) 1 : ℤ) = (e.val : ℤ) := by
    constructor
    · intro h; exact ⟨h 0, h 1⟩
    · intro h q
      match q with
      | ⟨0, _⟩ => exact h.1
      | ⟨1, _⟩ => exact h.2
  refine hf.trans ?_
  rw [row_start]
  have h0 : scatter_S512x128_S4320x1_S4320x128_1_0_0_1.window (ix2 a d) 0 = 0 := rfl
  have h1 : scatter_S512x128_S4320x1_S4320x128_1_0_0_1.window (ix2 a d) 1 = d.val := rfl
  have h2 : scatter_S512x128_S4320x1_S4320x128_1_0_0_1.start (ix2 a d) idx 1 = 0 := rfl
  rw [h0, h1, h2, Fin.ext_iff]
  omega

/-- The sum of the rows by their index, at an entry. -/
theorem rows_at (x : FVec Ideal S512x128 .f32) (idx : IVec S4320x1 32) (upd : FVec Ideal S4320x128 .f32) (t : Fin 512) (e : Fin 128) :
    Host.scatterAdd scatter_S512x128_S4320x1_S4320x128_1_0_0_1 x idx upd (ix2 t e)
      = x (ix2 t e) + ∑ a : Fin 4320, if (idx (ix2 a (0 : Fin 1))).toInt = (t.val : ℤ) then upd (ix2 a e) else 0 := by
  show x (ix2 t e) + _ = _
  refine congrArg₂ (· + ·) rfl ?_
  rw [← Finset.sum_filter]
  refine Finset.sum_bij (fun (j : S4320x128.Idx) _ => (j 0 : Fin 4320)) ?_ ?_ ?_ ?_
  · intro j hj
    rw [Finset.mem_filter] at hj
    have hj' := hj.2
    rw [eq_ix2 j] at hj'
    exact Finset.mem_filter.2 ⟨Finset.mem_univ _, ((row_lands idx _ _ t e).1 hj').1⟩
  · intro j hj j' hj' h
    rw [Finset.mem_filter] at hj hj'
    have q := hj.2
    have q' := hj'.2
    rw [eq_ix2 j] at q
    rw [eq_ix2 j'] at q'
    have e1 := ((row_lands idx _ _ t e).1 q).2
    have e2 := ((row_lands idx _ _ t e).1 q').2
    rw [eq_ix2 j, eq_ix2 j', e1, e2]
    exact congrArg (fun a => ix2 a e) h
  · intro a ha
    rw [Finset.mem_filter] at ha
    exact ⟨ix2 a e, Finset.mem_filter.2 ⟨Finset.mem_univ _, (row_lands idx a e t e).2 ⟨ha.2, rfl⟩⟩, rfl⟩
  · intro j hj
    rw [Finset.mem_filter] at hj
    have q := hj.2
    rw [eq_ix2 j] at q
    have e1 := ((row_lands idx _ _ t e).1 q).2
    exact congrArg upd (by rw [eq_ix2 j, e1]; rfl)

/-! ## Which atoms a token takes -/

/-- The sum of the first `k` entries. -/
def upto (f : ℕ → ℕ) (k : ℕ) : ℕ := ((List.range k).map f).sum

theorem upto_succ (f : ℕ → ℕ) (k : ℕ) : upto f (k + 1) = upto f k + f k := by
  unfold upto; rw [List.range_succ]; simp

theorem upto_mono (f : ℕ → ℕ) {j k : ℕ} (h : j ≤ k) : upto f j ≤ upto f k := by
  induction h with
  | refl => exact le_rfl
  | step _ ih => rw [upto_succ]; omega

theorem upto_le (f : ℕ → ℕ) {B : ℕ} (hf : ∀ i, f i ≤ B) (k : ℕ) : upto f k ≤ k * B := by
  induction k with
  | zero => simp [upto]
  | succ k ih => rw [upto_succ, Nat.succ_mul]; have := hf k; omega

theorem count_upto (f : ℕ → ℕ) {t a : ℕ} (h0 : upto f t ≤ a) (h1 : a < upto f (t + 1)) {N : ℕ} (hN : t < N) :
    Nat.count (fun q => upto f (q + 1) ≤ a) N = t := by
  have hlow : ∀ m, m ≤ t → Nat.count (fun q => upto f (q + 1) ≤ a) m = m := by
    intro m
    induction m with
    | zero => intro _; exact Nat.count_zero _
    | succ m ih =>
      intro hm
      rw [Nat.count_succ, ih (by omega), if_pos ((upto_mono f hm).trans h0)]
  have hhigh : ∀ k, Nat.count (fun q => upto f (q + 1) ≤ a) (t + k) = t := by
    intro k
    induction k with
    | zero => exact hlow t le_rfl
    | succ k ih =>
      have hk : ¬ upto f (t + k + 1) ≤ a := by
        have := upto_mono f (show t + 1 ≤ t + k + 1 by omega)
        omega
      rw [← Nat.add_assoc, Nat.count_succ, ih, if_neg hk, Nat.add_zero]
  have := hhigh (N - t)
  rwa [Nat.add_sub_cancel' hN.le] at this

/-- Among the atoms there are, those whose count of finished tokens is `t` are the token `t`'s. -/
theorem segment_iff (f : ℕ → ℕ) (t : Fin 512) (a : ℕ) :
    (min (Nat.count (fun q => upto f (q + 1) ≤ a) 512) 511 = t.val ∧ a < upto f 512)
      ↔ upto f (t.val + 1) ≤ a + f t.val ∧ a < upto f (t.val + 1) := by
  have ht := t.isLt
  constructor
  · rintro ⟨h, ha⟩
    have hex : ∃ s, a < upto f (s + 1) := ⟨511, ha⟩
    have hs := Nat.find_spec hex
    have hmin : ∀ s, s < Nat.find hex → ¬ a < upto f (s + 1) := fun s => Nat.find_min hex
    have hle : Nat.find hex ≤ 511 := Nat.find_min' hex ha
    generalize Nat.find hex = s at hs hmin hle
    have h0 : upto f s ≤ a := by
      rcases Nat.eq_zero_or_pos s with hz | hp
      · subst hz; simp [upto]
      · have := hmin (s - 1) (by omega)
        rw [Nat.sub_add_cancel hp] at this
        omega
    rw [count_upto f h0 hs (by omega), Nat.min_eq_left hle] at h
    subst h
    rw [upto_succ] at hs ⊢
    omega
  · rintro ⟨h0, h1⟩
    rw [upto_succ] at h0
    have h0' : upto f t.val ≤ a := by omega
    rw [count_upto f h0' h1 ht]
    refine ⟨by omega, lt_of_lt_of_le h1 (upto_mono f (by omega))⟩

theorem ends_upto (n : Fin 512 → ℕ) (f : ℕ → ℕ) (hf : ∀ t : Fin 512, f t.val = n t) (t : Fin 512) : ends n t = upto f (t.val + 1) := by
  have hu : ∀ k, upto f k = ∑ i ∈ Finset.range k, f i := by
    intro k
    induction k with
    | zero => simp [upto]
    | succ k ih => rw [upto_succ, ih, Finset.sum_range_succ]
  rw [hu]
  unfold ends
  have h1 : (∑ u : Fin 512, if u ≤ t then n u else 0) = ∑ i ∈ Finset.range 512, if i ≤ t.val then f i else 0 := by
    rw [Finset.sum_range]
    exact Finset.sum_congr rfl fun u _ => if_congr Iff.rfl (hf u).symm rfl
  rw [h1, ← Finset.sum_filter]
  refine Finset.sum_congr (Finset.ext fun i => ?_) fun _ _ => rfl
  rw [Finset.mem_filter, Finset.mem_range, Finset.mem_range]
  have := t.isLt
  omega

end Cert.Embed
end
-- ==== Proof.Embed.RefToken.lean ====
/- The reference's token features, read at an index. -/
module

public import proofs.«01_k».proof.Proof.Gen.ReferenceIdeal.Run
public import proofs.«01_k».proof.Proof.Embed.Segment

@[expose] public section

set_option maxRecDepth 16384

noncomputable section

namespace Cert.Embed

open Idealize.ShloMosaic Idealize.ShloMosaic.TcCoe Idealize.SL.Sem
open Cert.ReferenceIdeal Cert.ReferenceIdeal.Gen Cert.ReferenceIdeal.Value

theorem toInt_word {a : ℕ} (ha : a < 2 ^ 31) : (BitVec.ofNat 32 a).toInt = (a : ℤ) := by
  rw [BitVec.toInt_eq_toNat_cond, BitVec.toNat_ofNat, Nat.mod_eq_of_lt (by omega), if_pos (by omega)]

/-- A negative length counts as none. -/
theorem clamp_word (x : BitVec 32) : Scalar.select (IntOp.cmpi .sge x 0#32) x 0#32 = BitVec.ofNat 32 x.toInt.toNat := by
  have h : IntOp.cmpi .sge x 0#32 = 1 ↔ 0 ≤ x.toInt := by
    show BitVec.ofBool ((0#32).sle x) = 1#1 ↔ _
    rw [ofBool_eq_one, BitVec.sle_iff_toInt_le]; simp
  unfold Scalar.select
  by_cases hx : 0 ≤ x.toInt
  · rw [if_pos (h.2 hx)]
    apply BitVec.eq_of_toInt_eq
    rw [toInt_word (by have := BitVec.toInt_lt (x := x); omega)]
    omega
  · rw [if_neg fun q => hx (h.1 q)]
    rw [Int.toNat_of_nonpos (by omega)]

theorem sle_word {a b : ℕ} (ha : a < 2 ^ 31) (hb : b < 2 ^ 31) :
    IntOp.cmpi .sle (BitVec.ofNat 32 a) (BitVec.ofNat 32 b) = 1#1 ↔ a ≤ b := by
  show BitVec.ofBool ((BitVec.ofNat 32 a).sle (BitVec.ofNat 32 b)) = 1#1 ↔ _
  rw [ofBool_eq_one, BitVec.sle_iff_toInt_le, toInt_word ha, toInt_word hb]; omega

theorem slt_word {a b : ℕ} (ha : a < 2 ^ 31) (hb : b < 2 ^ 31) :
    IntOp.cmpi .slt (BitVec.ofNat 32 a) (BitVec.ofNat 32 b) = 1#1 ↔ a < b := by
  show BitVec.ofBool ((BitVec.ofNat 32 a).slt (BitVec.ofNat 32 b)) = 1#1 ↔ _
  rw [ofBool_eq_one, BitVec.slt_iff_toInt_lt, toInt_word ha, toInt_word hb]; omega

theorem minsi_word {a b : ℕ} (ha : a < 2 ^ 31) (hb : b < 2 ^ 31) :
    (IntOp.minsi (BitVec.ofNat 32 a) (BitVec.ofNat 32 b)).toInt = ((min a b : ℕ) : ℤ) := by
  unfold IntOp.minsi
  split <;> rename_i h <;> simp only [BitVec.slt_iff_toInt_lt, BitVec.sle_iff_toInt_le, toInt_word ha, toInt_word hb] at h ⊢ <;> omega

theorem maxsi_word {a b : ℕ} (ha : a < 2 ^ 31) (hb : b < 2 ^ 31) :
    IntOp.maxsi (BitVec.ofNat 32 a) (BitVec.ofNat 32 b) = BitVec.ofNat 32 (max a b) := by
  apply BitVec.eq_of_toInt_eq
  rw [toInt_word (by omega : max a b < 2 ^ 31)]
  unfold IntOp.maxsi
  split <;> rename_i h <;> simp only [BitVec.slt_iff_toInt_lt, BitVec.sle_iff_toInt_le, toInt_word ha, toInt_word hb] at h ⊢ <;> omega

/-- The sum of all the lengths. -/
theorem total_word (x : IVec S1x512 32) (f : ℕ → ℕ) (hx : ∀ t : Fin 512, x (ix2 0 t) = BitVec.ofNat 32 (f t.val))
    (h : S1x512.ReducesTo [1] S1) (hu : 0 < S_.numel) :
    Host.reduce IntOp.addi x (constantI S_ 32 0#32) h hu (ix1 0) = BitVec.ofNat 32 (upto f 512) := by
  unfold Host.reduce
  have hd : ∀ i : S1.Idx, i = ix1 0 := fun i => funext fun a => by
    match a with
    | ⟨0, _⟩ => exact Subsingleton.elim (α := Fin 1) _ _
  rw [(List.filter_eq_self (p := fun n => decide (h.drop (S1x512.rowMajor.symm n) = ix1 0))).2 fun n _ => decide_eq_true (hd _)]
  have hnum : S1x512.numel = 512 := by decide
  refine (Routing.foldl_addi_ofNat _ _ (fun n => f n.val) (fun n _ => ?_) _ 0 rfl).trans ?_
  · have hn : n.val < 512 := lt_of_lt_of_eq n.isLt hnum
    have hs := Routing.symm22 (A := 1) (B := 512) n (by omega) (by omega)
    show x (S1x512.rowMajor.symm n) = _
    refine (congrArg x hs).trans ?_
    refine (congrArg x (?_ : _ = ix2 (0 : Fin 1) (⟨n.val, hn⟩ : Fin 512))).trans (hx ⟨n.val, hn⟩)
    funext a; apply Fin.ext
    match a with
    | ⟨0, _⟩ => show n.val / 512 = 0; omega
    | ⟨1, _⟩ => show n.val % 512 = n.val; omega
  · rw [Nat.zero_add, Routing.map_finRange_val _ f]
    unfold upto
    rw [hnum]

/-- A word `ofNat` of a natural is what the reference's first step keeps of a length. -/
theorem lens_at (V0 : Valuation τ sig (Elt Ideal)) (t : Fin 512) :
    res_main_v2 V0 (ix2 0 t) = BitVec.ofNat 32 ((V0 (Proc.devRef .tc main_arg8) (ix2 0 t) : BitVec 32).toInt.toNat) := by
  rw [← clamp_word]
  pointwise [res_main_v2]; rfl

theorem lens_flat (V0 : Valuation τ sig (Elt Ideal)) (t : Fin 512) : res_main_v11 V0 (ix1 t) = res_main_v2 V0 (ix2 0 t) := by
  pointwise [res_main_v11]

/-- The tokens that end at or before an atom, counted. -/
theorem segment_at (f : ℕ → ℕ) (hf : ∀ i, f i ≤ 4320) (V0 : Valuation τ sig (Elt Ideal))
    (hV : ∀ t : Fin 512, res_main_v11 V0 (ix1 t) = BitVec.ofNat 32 (f t.val)) (z : IVec S_ 32) (hz : z ix0 = 0#32) (a : Fin 4320) :
    Host.reduce IntOp.addi (extui 32 (cmpi .sle (broadcastInDim S4320x512 ![0, 1] bcast_S1x512_S4320x512_0_1 (broadcastInDim S1x512 ![1] bcast_S512_S1x512_1
        (Host.reduceWindow IntOp.addi ![512] ![1] ![511] ![0] (res_main_v11 V0) z reduceWindows_S512_S512_w512s1p511_0 h_S_)))
        (broadcastInDim S4320x512 ![0, 1] bcast_S4320x1_S4320x512_0_1 (broadcastInDim S4320x1 ![0] bcast_S4320_S4320x1_0 (iotaInDim S4320 32 0)))) natLt_1_32)
        (constantI S_ 32 0#32) reducesTo_S4320x512_S4320_d1 h_S_ (ix1 a)
      = BitVec.ofNat 32 (Nat.count (fun q => upto f (q + 1) ≤ a.val) 512) := by
  refine Routing.reduce_count (n := 4320) (m := 512) (by norm_num) _ _ _ _ a (fun q => upto f (q + 1) ≤ a.val) fun q => ?_
  have hc : Host.reduceWindow IntOp.addi ![512] ![1] ![511] ![0] (res_main_v11 V0) z reduceWindows_S512_S512_w512s1p511_0 h_S_ (ix1 q)
      = BitVec.ofNat 32 (upto f (q.val + 1)) :=
    Routing.cumsum1 (N := 512) (Nm1 := 511) rfl _ f hV z hz _ _ q
  have hb := upto_le f hf (q.val + 1)
  have hq := q.isLt
  have ha := a.isLt
  rw [← sle_word (a := upto f (q.val + 1)) (b := a.val) (by omega) (by omega), ← hc]
  generalize Host.reduceWindow IntOp.addi ![512] ![1] ![511] ![0] (res_main_v11 V0) z reduceWindows_S512_S512_w512s1p511_0 h_S_ = W
  pointwise

theorem segIdx_at (R : IVec S4320 32) (a : Fin 4320) :
    broadcastInDim S4320x1 ![0] bcast_S4320_S4320x1_0 (minsi R (broadcastInDim S4320 ![] bcast_S_S4320 (constantI S_ 32 511#32))) (ix2 a (0 : Fin 1))
      = IntOp.minsi (R (ix1 a)) 511#32 := by
  pointwise

theorem masked_at (T : IVec S1 32) (ai : FVec Ideal S1x4320x77 .f32) (wa : FVec Ideal S77x128 .f32) (a : Fin 4320) (d : Fin 128) :
    mulf (shapeCast _ (Host.dotGeneral dot_S1x4320x77_S77x128_S1x4320x128_2_0_01_1_n_n none ai wa) shapeCasts_S1x4320x128_S4320x128)
      (broadcastInDim S4320x128 ![0, 1] bcast_S4320x1_S4320x128_0_1 (uitofp .f32 (broadcastInDim S4320x1 ![0] bcast_S4320_S4320x1_0
        (shapeCast _ (cmpi .slt (broadcastInDim S1x4320 ![1] bcast_S4320_S1x4320_1 (iotaInDim S4320 32 0))
          (broadcastInDim S1x4320 ![0, 1] bcast_S1x1_S1x4320_0_1 (broadcastInDim S1x1 ![0] bcast_S1_S1x1_0 T))) shapeCasts_S1x4320_S4320)))) (ix2 a d)
      = atom (fun a k => ai (ix3 0 a k)) (fun k d => wa (ix2 k d)) a d
          * FloatOps.uitofp (F := Ideal) .f32 (IntOp.cmpi .slt (BitVec.ofNat 32 a.val) (T (ix1 0))) := by
  unfold atom
  pointwise

end Cert.Embed
end
-- ==== Proof.Embed.RefPooled.lean ====
/- The reference's token features at an entry: the mean over the token's atoms, projected. -/
module

public import proofs.«01_k».proof.Proof.Embed.RefToken

@[expose] public section

set_option maxRecDepth 16384

noncomputable section

namespace Cert.Embed

open Idealize.ShloMosaic Idealize.ShloMosaic.TcCoe Idealize.SL.Sem
open Cert.ReferenceIdeal Cert.ReferenceIdeal.Gen Cert.ReferenceIdeal.Value

/-- A length counts its atoms. -/
def lens (V0 : Valuation τ sig (Elt Ideal)) (t : Fin 512) : ℕ :=
  (V0 (Proc.devRef .tc main_arg8) (ix2 0 t) : BitVec 32).toInt.toNat

/-- The lengths, on all naturals. -/
def lensAt (V0 : Valuation τ sig (Elt Ideal)) (i : ℕ) : ℕ := if h : i < 512 then lens V0 ⟨i, h⟩ else 0

theorem lensAt_val (V0 : Valuation τ sig (Elt Ideal)) (t : Fin 512) : lensAt V0 t.val = lens V0 t := dif_pos t.isLt

theorem lensAt_le (V0 : Valuation τ sig (Elt Ideal)) (h : ∀ t, lens V0 t ≤ 4320) (i : ℕ) : lensAt V0 i ≤ 4320 := by
  unfold lensAt; split
  · exact h _
  · omega

theorem addFeats_at (V0 : Valuation τ sig (Elt Ideal)) (t : Fin 512) (l : Fin 33) :
    res_main_v39 V0 (ix3 0 t (Fin.natAdd 384 l : Fin 417)) = V0 (Proc.devRef .tc main_arg7) (ix3 0 t l) := by
  unfold res_main_v39
  generalize Host.dotGeneral (F := Ideal) (φ₁ := .f32) (φ₂ := .f32) dot_S1x512x128_S128x384_S1x512x384_2_0_01_1_n_n none _ _ = D
  pointwise
  rw [dif_neg (by simp)]
  exact congrArg (fun q : Fin 33 => V0 (Proc.devRef .tc main_arg7) (ix3 0 t q)) (Fin.ext (by simp))

set_option maxHeartbeats 1000000 in
theorem tokFeats_at (V0 : Valuation τ sig (Elt Ideal)) (hn : ∀ t, lens V0 t ≤ 4320) (t : Fin 512) (e : Fin 384) :
    res_main_v39 V0 (ix3 0 t (Fin.castAdd 33 e : Fin 417))
      = token (lens V0) (atom (fun a k => V0 (Proc.devRef .tc main_arg0) (ix3 0 a k)) fun k d => V0 (Proc.devRef .tc main_arg16) (ix2 k d))
          (fun d e => V0 (Proc.devRef .tc main_arg18) (ix2 d e)) t e := by
  have hle := lensAt_le V0 hn
  have hV : ∀ t : Fin 512, res_main_v11 V0 (ix1 t) = BitVec.ofNat 32 (lensAt V0 t.val) := fun t => by
    rw [lens_flat, lens_at, lensAt_val]; rfl
  unfold res_main_v39
  generalize hS : Host.scatterAdd (F := Ideal) (φ := .f32) scatter_S512x128_S4320x1_S4320x128_1_0_0_1 _ _ _ = S
  have hs : ∀ d : Fin 128, S (ix2 t d) = ∑ a : Fin 4320, if ends (lens V0) t ≤ a.val + lens V0 t ∧ a.val < ends (lens V0) t then
      atom (fun a k => V0 (Proc.devRef .tc main_arg0) (ix3 0 a k)) (fun k d => V0 (Proc.devRef .tc main_arg16) (ix2 k d)) a d else 0 := by
    intro d
    rw [← hS, rows_at]
    refine (congrArg₂ (· + ·) (?_ : _ = (0 : EReal)) rfl).trans ((zero_add _).trans ?_)
    · pointwise
    refine Finset.sum_congr rfl fun a _ => ?_
    rw [segIdx_at, masked_at, segment_at (lensAt V0) hle V0 hV _ rfl a,
      total_word (res_main_v2 V0) (lensAt V0) (fun t => by rw [lens_at, lensAt_val]; rfl)]
    have hc : Nat.count (fun q => upto (lensAt V0) (q + 1) ≤ a.val) 512 ≤ 512 := Nat.count_le _
    have hu := upto_le (lensAt V0) hle 512
    have ha := a.isLt
    rw [uitofp_bit, show (511#32 : BitVec 32) = BitVec.ofNat 32 511 from rfl, minsi_word (by omega) (by norm_num)]
    rw [ends_upto (lens V0) (lensAt V0) (lensAt_val V0), ← lensAt_val V0 t, ← if_congr (segment_iff (lensAt V0) t a.val) rfl rfl]
    have hp := slt_word (a := a.val) (b := upto (lensAt V0) 512) (by omega) (by omega)
    by_cases h1 : min (Nat.count (fun q => upto (lensAt V0) (q + 1) ≤ a.val) 512) 511 = t.val
    · rw [if_pos (by exact_mod_cast h1)]
      by_cases h2 : a.val < upto (lensAt V0) 512
      · rw [if_pos (hp.2 h2), if_pos ⟨h1, h2⟩, mul_one]
      · rw [if_neg fun q => h2 (hp.1 q), if_neg fun q => h2 q.2, mul_zero]
    · rw [if_neg (by exact_mod_cast h1), if_neg fun q => h1 q.1]
  unfold token pooled
  have hb := hn t
  have hd : FloatOps.sitofp (F := Ideal) FTy.f32 (IntOp.maxsi (res_main_v11 V0 (ix1 t)) 1#32) = max ((lens V0 t : ℕ) : EReal) 1 := by
    rw [hV, lensAt_val, show (1#32 : BitVec 32) = BitVec.ofNat 32 1 from rfl, maxsi_word (by omega) (by norm_num), sitofp_ofNat _ (by omega)]
    rcases le_total (lens V0 t) 1 with h | h
    · rw [max_eq_right h, max_eq_right (by exact_mod_cast h), Nat.cast_one]
    · rw [max_eq_left h, max_eq_left (by exact_mod_cast h)]
  simp only [← hs, ← hd]
  generalize res_main_v11 V0 = L
  pointwise
  rw [dif_pos (show (Fin.castAdd 33 e).val < 384 from e.isLt)]
  rfl

/-- The tokens' features, the additional ones after. -/
def feats (V0 : Valuation τ sig (Elt Ideal)) (t : Fin 512) (k : Fin 417) : EReal := res_main_v39 V0 (ix3 0 t k)

/-- The tokens' features times a weight of 417 rows: two products, one of each piece. -/
theorem features_mul (V0 : Valuation τ sig (Elt Ideal)) (hn : ∀ t, lens V0 t ≤ 4320) {m : ℕ} (w : Fin 417 → Fin m → EReal) (t : Fin 512) (o : Fin m) :
    (∑ k : Fin 417, feats V0 t k * w k o)
      = proj (token (lens V0) (atom (fun a k => V0 (Proc.devRef .tc main_arg0) (ix3 0 a k)) fun k d => V0 (Proc.devRef .tc main_arg16) (ix2 k d))
          (fun d e => V0 (Proc.devRef .tc main_arg18) (ix2 d e))) (fun t l => V0 (Proc.devRef .tc main_arg7) (ix3 0 t l))
          (fun e o => w (Fin.castAdd 33 e) o) (fun l o => w (Fin.natAdd 384 l) o) t o := by
  unfold proj
  refine (Fin.sum_univ_add (a := 384) (b := 33) (fun k => feats V0 t k * w k o)).trans ?_
  refine congrArg₂ (· + ·) (Finset.sum_congr rfl fun e _ => ?_) (Finset.sum_congr rfl fun l _ => ?_)
  · exact congrArg (· * _) (tokFeats_at V0 hn t e)
  · exact congrArg (· * _) (addFeats_at V0 t l)

end Cert.Embed
end
-- ==== Proof.Embed.RefSingle.lean ====
/- The reference's single embedding at an entry. -/
module

public import proofs.«01_k».proof.Proof.Embed.RefPooled

@[expose] public section

set_option maxRecDepth 16384

noncomputable section

namespace Cert.Embed

open Idealize.ShloMosaic Idealize.ShloMosaic.TcCoe Idealize.SL.Sem
open Cert.ReferenceIdeal Cert.ReferenceIdeal.Gen Cert.ReferenceIdeal.Value

/-- A row taken from the table of the molecules' types. -/
theorem take_at (x : FVec Ideal S33x384 .f32) (idx : IVec S1x512x1 32) (t : Fin 512) (o : Fin 384) (b : Fin 33)
    (hb : idx (ix3 0 t 0) = BitVec.ofNat 32 b.val) :
    Host.gather gather_S33x384_S1x512x1_S1x512x384_2_0_n_n_0_2_1384 x idx (ix3 0 t o) = x (ix2 b o) := by
  unfold Host.gather
  refine congrArg x (funext fun a => Fin.ext ?_)
  have hbl := b.isLt
  match a with
  | ⟨0, _⟩ =>
    have hs : gather_S33x384_S1x512x1_S1x512x384_2_0_n_n_0_2_1384.siIdx (ix3 0 t o) ⟨0, by decide⟩ = ix3 (0 : Fin 1) t (0 : Fin 1) := by
      funext b'
      apply Fin.ext
      match b' with
      | ⟨0, _⟩ => rfl
      | ⟨1, _⟩ => rfl
      | ⟨2, _⟩ => rfl
    have h0 : gather_S33x384_S1x512x1_S1x512x384_2_0_n_n_0_2_1384.start (ix3 0 t o) idx 0 = b.val := by
      refine (congrArg (fun i => min (idx i).toInt.toNat 32) hs).trans ?_
      rw [hb, toInt_word (by omega)]
      omega
    show gather_S33x384_S1x512x1_S1x512x384_2_0_n_n_0_2_1384.start (ix3 0 t o) idx 0
      + gather_S33x384_S1x512x1_S1x512x384_2_0_n_n_0_2_1384.batchCoord (ix3 0 t o) 0
      + gather_S33x384_S1x512x1_S1x512x384_2_0_n_n_0_2_1384.offCoord (ix3 0 t o) 0 = b.val
    rw [h0]; rfl
  | ⟨1, _⟩ =>
    show gather_S33x384_S1x512x1_S1x512x384_2_0_n_n_0_2_1384.start (ix3 0 t o) idx 1
      + gather_S33x384_S1x512x1_S1x512x384_2_0_n_n_0_2_1384.batchCoord (ix3 0 t o) 1
      + gather_S33x384_S1x512x1_S1x512x384_2_0_n_n_0_2_1384.offCoord (ix3 0 t o) 1 = o.val
    have h0 : gather_S33x384_S1x512x1_S1x512x384_2_0_n_n_0_2_1384.start (ix3 0 t o) idx 1 = 0 := rfl
    have h1 : gather_S33x384_S1x512x1_S1x512x384_2_0_n_n_0_2_1384.batchCoord (ix3 0 t o) 1 = 0 := rfl
    have h2 : gather_S33x384_S1x512x1_S1x512x384_2_0_n_n_0_2_1384.offCoord (ix3 0 t o) 1 = o.val := rfl
    rw [h0, h1, h2]; omega

/-- The molecule's id, wrapped, is the id itself where it names a row. -/
theorem wrapped_at (V0 : Valuation τ sig (Elt Ideal)) (t : Fin 512) (b : Fin 33)
    (hb : (V0 (Proc.devRef .tc main_arg10) (ix2 0 t) : BitVec 32) = BitVec.ofNat 32 b.val) :
    res_main_call2_v5 V0 (ix3 0 t 0) = BitVec.ofNat 32 b.val := by
  have hbl := b.isLt
  have h : res_main_call2_v5 V0 (ix3 0 t 0) = Scalar.select (IntOp.cmpi .slt (V0 (Proc.devRef .tc main_arg10) (ix2 0 t) : BitVec 32) 0#32)
      (IntOp.addi (V0 (Proc.devRef .tc main_arg10) (ix2 0 t) : BitVec 32) 33#32) (V0 (Proc.devRef .tc main_arg10) (ix2 0 t) : BitVec 32) := by
    pointwise [res_main_call2_v5]
  rw [h, hb]
  exact Routing.wrap_of_lt _ _ (by rw [BitVec.toNat_ofNat, Nat.mod_eq_of_lt (by omega)]; omega)

/-- Every wrapped id in range passes the bounds' test. -/
theorem inBounds_at (V : IVec S1x512x1 32) (t : Fin 512) (b : Fin 33) (hb : V (ix3 0 t 0) = BitVec.ofNat 32 b.val) :
    Host.reduce IntOp.andi (andi (cmpi .sge V (broadcastInDim S1x512x1 ![] bcast_S_S1x512x1 (constantI S_ 32 0#32)))
      (cmpi .sle V (broadcastInDim S1x512x1 ![0, 1, 2] bcast_S1x1x1_S1x512x1_0_1_2 (broadcastInDim S1x1x1 ![2] bcast_S1_S1x1x1_2 (constantI S1 32 32#32)))))
      (constantI S_ 1 1#1) reducesTo_S1x512x1_S1x512_d2 h_S_ (ix2 0 t) = 1#1 := by
  have hbl := b.isLt
  have h1 : IntOp.cmpi .sge (BitVec.ofNat 32 b.val) 0#32 = 1#1 :=
    (WordCmp.cmpi_sge_ofNat_eq_one_iff (w := 32) (a := b.val) (b := 0) (by omega) (by omega)).2 (Nat.zero_le _)
  have h2 : IntOp.cmpi .sle (BitVec.ofNat 32 b.val) 32#32 = 1#1 := (sle_word (by omega) (by norm_num)).2 (by omega)
  pointwise
  rw [Finset.univ_unique, Finset.fold_singleton]
  show IntOp.andi (IntOp.andi (IntOp.cmpi .sge (V (ix3 0 t 0)) 0#32) (IntOp.cmpi .sle (V (ix3 0 t 0)) 32#32)) 1#1 = 1#1
  rw [hb, h1, h2]; rfl

/-- The reference's first result, of its arguments. -/
def refSingle (V0 : Valuation τ sig (Elt Ideal)) : FVec Ideal S1x512x384 .f32 :=
  addf (addf (Host.dotGeneral (φ₁ := .f32) (φ₂ := .f32) dot_S1x512x417_S417x384_S1x512x384_2_0_01_1_n_n none (res_main_v39 V0) (V0 (Proc.devRef .tc main_arg19))) (select (broadcastInDim S1x512x384 ![0, 1] bcast_S1x512_S1x512x384_0_1 (Host.reduce IntOp.andi (andi (cmpi .sge (res_main_call2_v5 V0) (broadcastInDim S1x512x1 ![] bcast_S_S1x512x1 (constantI S_ 32 0#32))) (cmpi .sle (res_main_call2_v5 V0) (broadcastInDim S1x512x1 ![0, 1, 2] bcast_S1x1x1_S1x512x1_0_1_2 (broadcastInDim S1x1x1 ![2] bcast_S1_S1x1x1_2 (constantI S1 32 32#32))))) (constantI S_ 1 1#1) reducesTo_S1x512x1_S1x512_d2 h_S_)) (Host.gather gather_S33x384_S1x512x1_S1x512x384_2_0_n_n_0_2_1384 (V0 (Proc.devRef .tc main_arg20)) (res_main_call2_v5 V0)) (broadcastInDim S1x512x384 ![] bcast_S_S1x512x384 (constant S_ .f32 0x7FC00000#32)))) (Host.dotGeneral (φ₁ := .f32) (φ₂ := .f32) dot_S1x512x4_S4x384_S1x512x384_2_0_01_1_n_n none (uitofp .f32 (V0 (Proc.devRef .tc main_arg11))) (V0 (Proc.devRef .tc main_arg25)))

/-- The single embedding: the features' product, the molecule type's row and the modifications' rows. -/
theorem single_at (V0 : Valuation τ sig (Elt Ideal)) (hn : ∀ t, lens V0 t ≤ 4320) (t : Fin 512) (o : Fin 384) (b : Fin 33)
    (hb : (V0 (Proc.devRef .tc main_arg10) (ix2 0 t) : BitVec 32) = BitVec.ofNat 32 b.val) :
    refSingle V0 (ix3 0 t o)
      = (proj (token (lens V0) (atom (fun a k => V0 (Proc.devRef .tc main_arg0) (ix3 0 a k)) fun k d => V0 (Proc.devRef .tc main_arg16) (ix2 k d))
          (fun d e => V0 (Proc.devRef .tc main_arg18) (ix2 d e))) (fun t l => V0 (Proc.devRef .tc main_arg7) (ix3 0 t l))
          (fun e o => V0 (Proc.devRef .tc main_arg19) (ix2 (Fin.castAdd 33 e : Fin 417) o))
          (fun l o => V0 (Proc.devRef .tc main_arg19) (ix2 (Fin.natAdd 384 l : Fin 417) o)) t o
          + V0 (Proc.devRef .tc main_arg20) (ix2 b o))
        + ∑ k : Fin 4, FloatOps.uitofp (F := Ideal) .f32 (V0 (Proc.devRef .tc main_arg11) (ix3 0 t k)) * V0 (Proc.devRef .tc main_arg25) (ix2 k o) := by
  have hw := wrapped_at V0 t b hb
  have hB := inBounds_at (res_main_call2_v5 V0) t b hw
  unfold refSingle
  have hG := take_at (V0 (Proc.devRef .tc main_arg20)) (res_main_call2_v5 V0) t o b hw
  rw [← features_mul V0 hn (fun k o => V0 (Proc.devRef .tc main_arg19) (ix2 k o)) t o, ← hG]
  generalize Host.gather gather_S33x384_S1x512x1_S1x512x384_2_0_n_n_0_2_1384 (V0 (Proc.devRef .tc main_arg20)) (res_main_call2_v5 V0) = G at *
  generalize Host.reduce IntOp.andi _ (constantI S_ 1 1#1) reducesTo_S1x512x1_S1x512_d2 h_S_ = B at *
  unfold feats
  generalize res_main_v39 V0 = X
  pointwise
  rw [hB]; rfl

end Cert.Embed
end
-- ==== Proof.Embed.RefPair.lean ====
/- The reference's relative-position embedding and its pair embedding at an entry. -/
module

public import proofs.«01_k».proof.Proof.Embed.RefPooled
public import proofs.«01_k».proof.Proof.Embed.Rows

@[expose] public section

set_option maxRecDepth 16384

noncomputable section

namespace Cert.Embed

open Idealize.ShloMosaic Idealize.ShloMosaic.TcCoe Idealize.SL.Sem
open Cert.ReferenceIdeal Cert.ReferenceIdeal.Gen Cert.ReferenceIdeal.Value

theorem sum_139 (f : Fin 139 → EReal) :
    (∑ c, f c) = (((∑ c : Fin 66, f ⟨c.val, by omega⟩) + ∑ c : Fin 66, f ⟨66 + c.val, by omega⟩) + f ⟨132, by omega⟩)
      + ∑ c : Fin 6, f ⟨133 + c.val, by omega⟩ := by
  rw [show (∑ c, f c) = ∑ c : Fin (133 + 6), f c from rfl, Fin.sum_univ_add]
  refine congrArg₂ (· + ·) ?_ (Finset.sum_congr rfl fun c _ => congrArg f (Fin.ext (by simp)))
  rw [show (∑ c : Fin 133, f (Fin.castAdd 6 c)) = ∑ c : Fin (132 + 1), f (Fin.castAdd 6 c) from rfl, Fin.sum_univ_add]
  refine congrArg₂ (· + ·) ?_ ?_
  · rw [show (∑ c : Fin 132, f (Fin.castAdd 6 (Fin.castAdd 1 c))) = ∑ c : Fin (66 + 66), f (Fin.castAdd 6 (Fin.castAdd 1 c)) from rfl, Fin.sum_univ_add]
    exact congrArg₂ (· + ·) (Finset.sum_congr rfl fun c _ => congrArg f (Fin.ext rfl)) (Finset.sum_congr rfl fun c _ => congrArg f (Fin.ext rfl))
  · rw [Fin.sum_univ_one]; exact congrArg f (Fin.ext (by simp))

/-- The reference's rows of one-hot distances times the weights. -/
theorem relpos_sum (dr dt dc : BitVec 32) (ent : BitVec 1) (wr : Fin 139 → EReal) :
    (∑ x : Fin 139, (if _h : x.val < 66 then FloatOps.uitofp (F := Ideal) FTy.f32 (IntOp.cmpi .eq dr (BitVec.ofNat 32 x.val))
        else if _h : x.val - 66 < 66 then FloatOps.uitofp (F := Ideal) FTy.f32 (IntOp.cmpi .eq dt (BitVec.ofNat 32 (x.val - 66)))
        else if _h : x.val - 66 - 66 < 1 then FloatOps.uitofp (F := Ideal) FTy.f32 ent
        else FloatOps.uitofp (F := Ideal) FTy.f32 (IntOp.cmpi .eq dc (BitVec.ofNat 32 (x.val - 66 - 66 - 1)))) * wr x)
      = relpos dr dt dc ent wr := by
  have hh : ∀ (d : BitVec 32) (c : ℕ) (w : EReal), FloatOps.uitofp (F := Ideal) FTy.f32 (IntOp.cmpi .eq d (BitVec.ofNat 32 c)) * w
      = if BitVec.ofNat 32 c = d then w else 0 := by
    intro d c w
    rw [uitofp_bit, bit_ite_mul]
    exact if_congr (StableHlo.Predicate.cmpi_eq_iff.trans eq_comm) rfl rfl
  rw [sum_139]
  unfold relpos
  refine congrArg₂ (· + ·) (congrArg₂ (· + ·) (congrArg₂ (· + ·) ?_ ?_) ?_) ?_
  · refine Finset.sum_congr rfl fun c _ => ?_
    rw [dif_pos c.isLt, hh]
  · refine Finset.sum_congr rfl fun c _ => ?_
    have hc := c.isLt
    rw [dif_neg (by show ¬ 66 + c.val < 66; omega), dif_pos (by show 66 + c.val - 66 < 66; omega), hh, show 66 + c.val - 66 = c.val by omega]
  · rw [dif_neg (by norm_num), dif_neg (by norm_num), dif_pos (by norm_num), uitofp_bit, bit_ite_mul]
  · refine Finset.sum_congr rfl fun c _ => ?_
    have hc := c.isLt
    rw [dif_neg (by show ¬ 133 + c.val < 66; omega), dif_neg (by show ¬ 133 + c.val - 66 < 66; omega),
      dif_neg (by show ¬ 133 + c.val - 66 - 66 < 1; omega), hh, show 133 + c.val - 66 - 66 - 1 = c.val by omega]

theorem select_zero (b : BitVec 1) (x y : EReal) (hy : y = 0) : Scalar.select b x y = if b = 1#1 then x else 0 := by
  subst hy; rfl

/-- A token's additional features: residue, token, chain, entity and symmetry. -/
def feat (V0 : Valuation τ sig (Elt Ideal)) (t : Fin 512) (q : Fin 5) : BitVec 32 := V0 (Proc.devRef .tc main_arg13) (ix3 0 t q)

set_option maxHeartbeats 1000000 in
theorem rel_at (V0 : Valuation τ sig (Elt Ideal)) (i j : Fin 512) (o : Fin 128) :
    res_main_v115 V0 (ix4 0 i j o)
      = if IntOp.andi (res_main_v108 V0 (ix2 0 i)) (res_main_v108 V0 (ix2 0 j)) = 1#1 then
          relpos (dist (IntOp.cmpi .eq (feat V0 i 2) (feat V0 j 2)) (feat V0 i 0) (feat V0 j 0) 32#32 64#32 65#32)
            (dist (IntOp.cmpi .eq (feat V0 i 2) (feat V0 j 2)) (feat V0 i 1) (feat V0 j 1) 32#32 64#32 65#32)
            (dist (IntOp.cmpi .eq (feat V0 i 3) (feat V0 j 3)) (feat V0 i 4) (feat V0 j 4) 2#32 4#32 5#32)
            (IntOp.cmpi .eq (feat V0 i 3) (feat V0 j 3)) (fun c => V0 (Proc.devRef .tc main_arg26) (ix2 c o)) else 0 := by
  generalize hB : res_main_v108 V0 = B
  unfold res_main_v115
  rw [hB]
  unfold res_main_v67 res_main_v72
  pointwise [res_main_v54, res_main_v56, res_main_v58, res_main_v60, res_main_v62]
  rw [select_zero _ _ _ (show id (constant (F := Ideal) S_ .f32 0x00000000#32) ix0 = (0 : EReal) by rw [id]; pointwise)]
  refine if_congr Iff.rfl ?_ rfl
  rw [← relpos_sum]
  rfl

/-- The reference's pair embedding, of its arguments. -/
def refPair (V0 : Valuation τ sig (Elt Ideal)) : FVec Ideal S1x512x512x128 .f32 :=
  addf (addf (addf (broadcastInDim S1x512x512x128 ![0, 1, 2, 3] bcast_S1x512x1x128_S1x512x512x128_0_1_2_3 (broadcastInDim S1x512x1x128 ![0, 1, 3] bcast_S1x512x128_S1x512x1x128_0_1_3 (Host.dotGeneral (φ₁ := .f32) (φ₂ := .f32) dot_S1x512x417_S417x128_S1x512x128_2_0_01_1_n_n none (res_main_v39 V0) (V0 (Proc.devRef .tc main_arg21))))) (broadcastInDim S1x512x512x128 ![0, 1, 2, 3] bcast_S1x1x512x128_S1x512x512x128_0_1_2_3 (broadcastInDim S1x1x512x128 ![0, 2, 3] bcast_S1x512x128_S1x1x512x128_0_2_3 (Host.dotGeneral (φ₁ := .f32) (φ₂ := .f32) dot_S1x512x417_S417x128_S1x512x128_2_0_01_1_n_n none (res_main_v39 V0) (V0 (Proc.devRef .tc main_arg22)))))) (res_main_v115 V0)) (Host.dotGeneral (φ₁ := .f32) (φ₂ := .f32) dot_S1x512x512x1_S1x128_S1x512x512x128_3_0_012_1_n_n none (broadcastInDim S1x512x512x1 ![0, 1, 2] bcast_S1x512x512_S1x512x512x1_0_1_2 (uitofp .f32 (select (broadcastInDim S1x512x512 ![1, 2] bcast_S512x512_S1x512x512_1_2 (cmpi .eq (addi (iotaInDim S512x512 32 0) (broadcastInDim S512x512 ![] bcast_S_S512x512 (constantI S_ 32 0#32))) (iotaInDim S512x512 32 1))) (broadcastInDim S1x512x512 ![] bcast_S_S1x512x512 (constantI S_ 1 0#1)) (ori (V0 (Proc.devRef .tc main_arg6)) (transpose S1x512x512 [0, 2, 1] (V0 (Proc.devRef .tc main_arg6)) transposes_S1x512x512_S1x512x512_0_2_1))))) (V0 (Proc.devRef .tc main_arg27)))

theorem pair_at (V0 : Valuation τ sig (Elt Ideal)) (i j : Fin 512) (o : Fin 128) :
    refPair V0 (ix4 0 i j o)
      = (((∑ k : Fin 417, feats V0 i k * V0 (Proc.devRef .tc main_arg21) (ix2 k o))
          + ∑ k : Fin 417, feats V0 j k * V0 (Proc.devRef .tc main_arg22) (ix2 k o)) + res_main_v115 V0 (ix4 0 i j o))
        + (if i = j then (0 : EReal) else if IntOp.ori (V0 (Proc.devRef .tc main_arg6) (ix3 0 i j) : BitVec 1) (V0 (Proc.devRef .tc main_arg6) (ix3 0 j i)) = 1#1 then 1 else 0)
            * V0 (Proc.devRef .tc main_arg27) (ix2 0 o) := by
  unfold refPair feats
  generalize res_main_v39 V0 = X
  generalize res_main_v115 V0 = R
  pointwise
  refine congrArg₂ (· + ·) rfl ?_
  rw [Finset.univ_unique, Finset.sum_singleton]
  refine congrArg₂ (· * ·) ?_ rfl
  have hi := i.isLt
  have hj := j.isLt
  rw [uitofp_bit]
  have he : IntOp.cmpi .eq (IntOp.addi (BitVec.ofNat 32 i.val) 0#32) (BitVec.ofNat 32 j.val) = 1#1 ↔ i = j := by
    rw [StableHlo.Predicate.cmpi_eq_iff, show IntOp.addi (BitVec.ofNat 32 i.val) 0#32 = BitVec.ofNat 32 i.val from BitVec.add_zero _,
      ofNat_inj_small (by omega) (by omega), Fin.ext_iff]
  by_cases h : i = j
  · rw [if_pos h, he.2 h]; rfl
  · rw [if_neg h, (bit_cases _).resolve_right fun q => h (he.1 q)]; rfl

end Cert.Embed
end
-- ==== Proof.Join.Entries.lean ====
/- The kernel's entries are the reference's entries. -/
module

public import proofs.«01_k».proof.Proof.Join.Kernel
public import proofs.«01_k».proof.Proof.Values.AnyBit
public import proofs.«01_k».proof.Proof.Embed.RefSingle
public import proofs.«01_k».proof.Proof.Embed.RefPair

@[expose] public section

set_option maxRecDepth 16384

noncomputable section

namespace Cert.Join

open Cert.KernelIdeal.Values Cert.Embed
open Idealize.ShloMosaic Idealize.ShloMosaic.TcCoe Idealize.SL.Sem
open Cert.KernelIdeal (S1x4320x77 S1x512x512 S1x512x33 S1x512 S1x512x4 S1x512x5 S77x128 S128x384 S417x384 S33x384 S417x128 S4x384 S139x128 S1x128 S512)

theorem max_bits (p q : BitVec 1) :
    max (FloatOps.uitofp (F := Ideal) FTy.f32 p : EReal) (FloatOps.uitofp (F := Ideal) FTy.f32 q) = if IntOp.ori p q = 1#1 then (1 : EReal) else 0 := by
  rw [uitofp_bit, uitofp_bit]
  rcases (by revert p; decide : p = 0#1 ∨ p = 1#1) with h | h <;> rcases (by revert q; decide : q = 0#1 ∨ q = 1#1) with h' | h' <;> subst h <;> subst h'
  · rw [if_neg (by decide), if_neg (by decide), max_self]
  · rw [if_neg (by decide), if_pos (by decide), if_pos (by decide), max_eq_right zero_le_one]
  · rw [if_pos (by decide), if_neg (by decide), if_pos (by decide), max_eq_left zero_le_one]
  · rw [if_pos (by decide), if_pos (by decide), max_self]

theorem both_bits (a b : BitVec 1) : both (BitVec.setWidth 32 a) (BitVec.setWidth 32 b) = IntOp.andi a b := by
  revert a b; decide

/-- An entry of the pair embedding, the sum in the reference's order. -/
theorem entry_order (X : IVec S1x512x5 32) (b : IVec S512 1) (p q : BitVec 1) (i j : Fin 512) (wr : Fin 139 → EReal) (P B Q : EReal) :
    pairEntry (metaEntry X b i) (metaEntry X b j) (FloatOps.uitofp (F := Ideal) FTy.f32 p) (FloatOps.uitofp (F := Ideal) FTy.f32 q) i j wr P B Q
      = ((P + Q) + (if IntOp.andi (b (ix1 i)) (b (ix1 j)) = 1#1 then
          relpos (dist (IntOp.cmpi .eq (X (ix3 0 i 2)) (X (ix3 0 j 2))) (X (ix3 0 i 0)) (X (ix3 0 j 0)) 32#32 64#32 65#32)
            (dist (IntOp.cmpi .eq (X (ix3 0 i 2)) (X (ix3 0 j 2))) (X (ix3 0 i 1)) (X (ix3 0 j 1)) 32#32 64#32 65#32)
            (dist (IntOp.cmpi .eq (X (ix3 0 i 3)) (X (ix3 0 j 3))) (X (ix3 0 i 4)) (X (ix3 0 j 4)) 2#32 4#32 5#32)
            (IntOp.cmpi .eq (X (ix3 0 i 3)) (X (ix3 0 j 3))) wr else 0))
        + (if i = j then (0 : EReal) else if IntOp.ori p q = 1#1 then 1 else 0) * B := by
  have h5 : ∀ t, metaEntry X b t 5 = BitVec.setWidth 32 (b (ix1 t)) := fun t => rfl
  have h0 : ∀ t, metaEntry X b t 0 = X (ix3 0 t 0) := fun t => rfl
  have h1 : ∀ t, metaEntry X b t 1 = X (ix3 0 t 1) := fun t => rfl
  have h2 : ∀ t, metaEntry X b t 2 = X (ix3 0 t 2) := fun t => rfl
  have h3 : ∀ t, metaEntry X b t 3 = X (ix3 0 t 3) := fun t => rfl
  have h4 : ∀ t, metaEntry X b t 4 = X (ix3 0 t 4) := fun t => rfl
  unfold pairEntry
  rw [h5, h5, h0, h0, h1, h1, h2, h2, h3, h3, h4, h4, both_bits, max_bits]
  generalize (if IntOp.andi (b (ix1 i)) (b (ix1 j)) = 1#1 then _ else (0 : EReal)) = R
  generalize (if i = j then (0 : EReal) else _) * B = T
  rw [add_right_comm (R + P) T Q, add_comm R P, add_right_comm P R Q]

variable (m : (ℓ : Loc Cert.KernelIdeal.nD Cert.KernelIdeal.τ Cert.KernelIdeal.sig) → Buf (Elt Ideal) ℓ) (c : Dev Cert.KernelIdeal.nD)

theorem pairOut_at (i j : Fin 512) (o : Fin 128) :
    pairOut m c i j o = pairEntry (metaEntry (molFeats m c) (bio (molTypes m c)) i) (metaEntry (molFeats m c) (bio (molTypes m c)) j)
      (FloatOps.uitofp (F := Ideal) FTy.f32 (bonds m c (ix3 0 i j))) (FloatOps.uitofp (F := Ideal) FTy.f32 (bonds m c (ix3 0 j i))) i j (fun k => wRel m c (ix2 k o))
      (product (features (atomInputs m c) (atomLens m c) (wAtom m c) (wToken m c)) (tokenFeats m c) (fun k o => wRow m c (ix2 k o)) i o)
      (wBond m c (ix2 0 o))
      (product (features (atomInputs m c) (atomLens m c) (wAtom m c) (wToken m c)) (tokenFeats m c) (fun k o => wCol m c (ix2 k o)) j o) := by
  unfold pairOut
  have e1 := funext (meta_at m c i)
  have e2 := funext (metaT_at m c j)
  rw [Cert.KernelIdeal.Values.rows_at, cols_at, bonds_at, bondsT_at]
  refine congrArg₂ (fun x y => pairEntry x y _ _ i j _ _ _ _) e1 e2

/-- The reference starts from the kernel's arguments. -/
structure Agrees (V0 : Valuation Cert.ReferenceIdeal.τ Cert.ReferenceIdeal.sig (Elt Ideal)) : Prop where
  h0 : (V0 (Proc.devRef .tc Cert.ReferenceIdeal.main_arg0) : FVec Ideal S1x4320x77 .f32) = atomInputs m c
  h6 : (V0 (Proc.devRef .tc Cert.ReferenceIdeal.main_arg6) : IVec S1x512x512 1) = bonds m c
  h7 : (V0 (Proc.devRef .tc Cert.ReferenceIdeal.main_arg7) : FVec Ideal S1x512x33 .f32) = tokenFeats m c
  h8 : (V0 (Proc.devRef .tc Cert.ReferenceIdeal.main_arg8) : IVec S1x512 32) = atomLens m c
  h10 : (V0 (Proc.devRef .tc Cert.ReferenceIdeal.main_arg10) : IVec S1x512 32) = molIds m c
  h11 : (V0 (Proc.devRef .tc Cert.ReferenceIdeal.main_arg11) : IVec S1x512x4 1) = molMods m c
  h12 : (V0 (Proc.devRef .tc Cert.ReferenceIdeal.main_arg12) : IVec S1x512x5 1) = molTypes m c
  h13 : (V0 (Proc.devRef .tc Cert.ReferenceIdeal.main_arg13) : IVec S1x512x5 32) = molFeats m c
  h16 : (V0 (Proc.devRef .tc Cert.ReferenceIdeal.main_arg16) : FVec Ideal S77x128 .f32) = wAtom m c
  h18 : (V0 (Proc.devRef .tc Cert.ReferenceIdeal.main_arg18) : FVec Ideal S128x384 .f32) = wToken m c
  h19 : (V0 (Proc.devRef .tc Cert.ReferenceIdeal.main_arg19) : FVec Ideal S417x384 .f32) = wSingle m c
  h20 : (V0 (Proc.devRef .tc Cert.ReferenceIdeal.main_arg20) : FVec Ideal S33x384 .f32) = molEmb m c
  h21 : (V0 (Proc.devRef .tc Cert.ReferenceIdeal.main_arg21) : FVec Ideal S417x128 .f32) = wRow m c
  h22 : (V0 (Proc.devRef .tc Cert.ReferenceIdeal.main_arg22) : FVec Ideal S417x128 .f32) = wCol m c
  h25 : (V0 (Proc.devRef .tc Cert.ReferenceIdeal.main_arg25) : FVec Ideal S4x384 .f32) = modEmb m c
  h26 : (V0 (Proc.devRef .tc Cert.ReferenceIdeal.main_arg26) : FVec Ideal S139x128 .f32) = wRel m c
  h27 : (V0 (Proc.devRef .tc Cert.ReferenceIdeal.main_arg27) : FVec Ideal S1x128 .f32) = wBond m c

variable {m c}

theorem bio_at {V0 : Valuation Cert.ReferenceIdeal.τ Cert.ReferenceIdeal.sig (Elt Ideal)} (A : Agrees m c V0) (t : Fin 512) :
    Cert.ReferenceIdeal.Value.res_main_v108 V0 (ix2 0 t) = bio (molTypes m c) (ix1 t) := by
  rw [← A.h12]
  exact (any_at _ t _ _ _ _ _).symm

theorem single_eq {V0 : Valuation Cert.ReferenceIdeal.τ Cert.ReferenceIdeal.sig (Elt Ideal)} (A : Agrees m c V0) (hn : ∀ t, count (atomLens m c) t ≤ 4320)
    (t : Fin 512) (o : Fin 384) (b : Fin 33) (hb : molIds m c (ix2 0 t) = BitVec.ofNat 32 b.val) :
    singleOut m c (ix2 t o) = refSingle V0 (ix3 0 t o) := by
  have hb' := hb
  rw [← A.h10] at hb'
  rw [← A.h8] at hn
  rw [singleOut_at m c t o b hb, ← A.h0, ← A.h7, ← A.h8, ← A.h11, ← A.h16, ← A.h18, ← A.h19, ← A.h20, ← A.h25]
  exact (single_at V0 hn t o b hb').symm

theorem pair_eq {V0 : Valuation Cert.ReferenceIdeal.τ Cert.ReferenceIdeal.sig (Elt Ideal)} (A : Agrees m c V0) (hn : ∀ t, count (atomLens m c) t ≤ 4320)
    (i j : Fin 512) (o : Fin 128) : pairOut m c i j o = refPair V0 (ix4 0 i j o) := by
  rw [← A.h8] at hn
  rw [pairOut_at, entry_order, ← bio_at A, ← bio_at A, ← A.h0, ← A.h6, ← A.h7, ← A.h8, ← A.h13, ← A.h16, ← A.h18, ← A.h21, ← A.h22, ← A.h26, ← A.h27]
  refine Eq.symm ((pair_at V0 i j o).trans ?_)
  rw [rel_at]
  have f1 := features_mul V0 hn (fun k o => (V0 (Proc.devRef .tc Cert.ReferenceIdeal.main_arg21) : FVec Ideal S417x128 .f32) (ix2 k o)) i o
  have f2 := features_mul V0 hn (fun k o => (V0 (Proc.devRef .tc Cert.ReferenceIdeal.main_arg22) : FVec Ideal S417x128 .f32) (ix2 k o)) j o
  refine congrArg₂ (· + ·) (congrArg₂ (· + ·) (congrArg₂ (· + ·) f1 f2) ?_) ?_
  · rfl
  · rfl

end Cert.Join
-- ==== Proof.Join.Algebraic.lean ====
/- The kernel's results and the reference's are equal. -/
module

public import proofs.«01_k».proof.Defs
public import proofs.«01_k».proof.Proof.Join.Tail
public import proofs.«01_k».proof.Proof.Join.Entries
public import proofs.«01_k».proof.Proof.Region.Frame
public import proofs.«01_k».proof.Proof.Gen.Pre_indices_in_range
public import proofs.«01_k».proof.Proof.Gen.ReferenceIdeal.Run

@[expose] public section

set_option maxRecDepth 16384

noncomputable section

namespace Cert.Join

open Cert.KernelIdeal.Values Cert.Embed
open Idealize.ShloMosaic Idealize.ShloMosaic.TcCoe Idealize.SL.Sem

open Cert.KernelIdeal (S1x512 S512 S_ S512x384 S1x512x384 S512x512x128 S1x512x512x128)

/-- What the precondition says of a length and of a molecule index. -/
theorem range_bits (x y : BitVec 32)
    (h : IntOp.andi (IntOp.andi (IntOp.cmpi .sle x 4320#32) (IntOp.cmpi .sge y 0#32)) (IntOp.cmpi .slt y 33#32) = 1#1) :
    x.toInt ≤ 4320 ∧ 0 ≤ y.toInt ∧ y.toInt < 33 := by
  obtain ⟨h1, h3⟩ := IntOp.andi_eq_one.mp h
  obtain ⟨h1, h2⟩ := IntOp.andi_eq_one.mp h1
  refine ⟨?_, ?_, ?_⟩
  · exact IntOp.cmpi_sle.mp h1
  · exact IntOp.cmpi_sge.mp h2
  · exact IntOp.cmpi_slt.mp h3

/-- A word in range is the word of its value. -/
theorem word_of_range (y : BitVec 32) (h0 : 0 ≤ y.toInt) (h1 : y.toInt < 33) : ∃ b : Fin 33, y = BitVec.ofNat 32 b.val := by
  have hy : y.toInt = (y.toNat : Int) := by
    rw [BitVec.toInt_eq_toNat_cond]; split
    · rfl
    · rename_i hh
      rw [BitVec.toInt_eq_toNat_cond, if_neg hh] at h0
      have := y.isLt; omega
  refine ⟨⟨y.toNat, by omega⟩, ?_⟩
  rw [BitVec.ofNat_toNat, BitVec.setWidth_eq]

/-- A length's sign, read after the negative ones are put to zero in either way. -/
theorem sign_word (x : BitVec 32) :
    IntOp.cmpi .sgt (IntOp.maxsi x 0#32) 0#32 = IntOp.cmpi .sgt (if IntOp.cmpi .sge x 0#32 = 1#1 then x else 0#32) 0#32 := by
  unfold IntOp.maxsi
  simp only [IntOp.cmpi_sge, BitVec.slt_iff_toInt_lt, BitVec.toInt_zero]
  by_cases h : 0 < x.toInt
  · rw [if_pos h, if_pos h.le]
  · rw [if_neg h]
    split
    · rename_i h'
      rw [BitVec.eq_of_toInt_eq (x := x) (y := 0#32) (by rw [BitVec.toInt_zero]; omega)]
    · rfl

variable {m : (ℓ : Loc Cert.KernelIdeal.nD Cert.KernelIdeal.τ Cert.KernelIdeal.sig) → Buf (Elt Ideal) ℓ} {c : Dev Cert.KernelIdeal.nD}
variable {V0 : Valuation Cert.ReferenceIdeal.τ Cert.ReferenceIdeal.sig (Elt Ideal)}

theorem single_result (A : Agrees m c V0) (hn : ∀ t, count (atomLens m c) t ≤ 4320) (hb : ∀ t, ∃ b : Fin 33, molIds m c (ix2 0 t) = BitVec.ofNat 32 b.val) :
    broadcastInDim S1x512x384 ![1, 2] Cert.KernelIdeal.Gen.bcast_S512x384_S1x512x384_1_2 (singleOut m c) = refSingle V0 := by
  funext i
  obtain ⟨z, t, o, rfl⟩ : ∃ z t o, i = ix3 z t o := ⟨i 0, i 1, i 2, eq_ix3 i⟩
  obtain rfl : z = 0 := Subsingleton.elim _ _
  obtain ⟨b, hb⟩ := hb t
  refine Eq.trans ?_ (single_eq A hn t o b hb)
  pointwise

theorem pair_result (A : Agrees m c V0) (hn : ∀ t, count (atomLens m c) t ≤ 4320) :
    broadcastInDim S1x512x512x128 ![1, 2, 3] Cert.KernelIdeal.Gen.bcast_S512x512x128_S1x512x512x128_1_2_3 (fun i : S512x512x128.Idx => pairOut m c (i 0) (i 1) (i 2)) = refPair V0 := by
  funext i
  obtain ⟨z, t, u, o, rfl⟩ : ∃ z t u o, i = ix4 z t u o := ⟨i 0, i 1, i 2, i 3, eq_ix4 i⟩
  obtain rfl : z = 0 := Subsingleton.elim _ _
  refine Eq.trans ?_ (pair_eq A hn t u o)
  pointwise

theorem mask_result (A : Agrees m c V0) : present (lengths m c) = Cert.ReferenceIdeal.Value.res_main_v131 V0 := by
  funext i
  obtain ⟨z, t, rfl⟩ : ∃ z t, i = ix2 z t := ⟨i 0, i 1, eq_ix2 i⟩
  obtain rfl : z = 0 := Subsingleton.elim _ _
  have e : present (lengths m c) (ix2 0 t) = IntOp.cmpi .sgt (IntOp.maxsi (atomLens m c (ix2 0 t)) 0#32) 0#32 := by
    unfold present lengths
    pointwise
    rfl
  rw [e, sign_word, ← A.h8]
  unfold Cert.ReferenceIdeal.Value.res_main_v131 Cert.ReferenceIdeal.Value.res_main_v2
  pointwise
  rfl

theorem pairs_result (A : Agrees m c V0) : presentPairs (present (lengths m c))
    = andi (broadcastInDim Cert.ReferenceIdeal.S1x512x512 ![0, 1, 2] Cert.ReferenceIdeal.Gen.bcast_S1x512x1_S1x512x512_0_1_2 (broadcastInDim Cert.ReferenceIdeal.S1x512x1 ![0, 1] Cert.ReferenceIdeal.Gen.bcast_S1x512_S1x512x1_0_1 (Cert.ReferenceIdeal.Value.res_main_v131 V0)))
      (broadcastInDim Cert.ReferenceIdeal.S1x512x512 ![0, 1, 2] Cert.ReferenceIdeal.Gen.bcast_S1x1x512_S1x512x512_0_1_2 (broadcastInDim Cert.ReferenceIdeal.S1x1x512 ![0, 2] Cert.ReferenceIdeal.Gen.bcast_S1x512_S1x1x512_0_2 (Cert.ReferenceIdeal.Value.res_main_v131 V0))) := by
  rw [mask_result A]; rfl

/-- The precondition at one token. -/
theorem in_range (hpre : Cert.Pre_KernelIdeal_indices_in_range (hPre_indices_in_range := Cert.Pre_indices_in_range.Gen.facts) m) (c : Dev Cert.KernelIdeal.nD) (t : Fin 512) :
    (atomLens m c (ix2 0 t)).toInt ≤ 4320 ∧ 0 ≤ (molIds m c (ix2 0 t)).toInt ∧ (molIds m c (ix2 0 t)).toInt < 33 :=
  range_bits _ _ (congrFun (hpre c) (ix2 0 t))

theorem agrees_launch {m' : (ℓ : Loc Cert.ReferenceIdeal.nD Cert.ReferenceIdeal.τ Cert.ReferenceIdeal.sig) → Buf (Elt Ideal) ℓ} (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    : Agrees m c (StableHlo.launchContents m' c) :=
  ⟨h0, h6, h7, h8, h10, h11, h12, h13, h16, h18, h19, h20, h21, h22, h25, h26, h27⟩

set_option maxHeartbeats 1000000 in
/-- From memories that agree on the arguments, the indices in range, the two programs end with equal results. -/
theorem algebraic : Cert.algebraic_KernelIdeal_ReferenceIdeal_pre_indices_in_range (hKernelIdeal := Cert.KernelIdeal.Gen.facts)
    (hReferenceIdeal := Cert.ReferenceIdeal.Gen.facts) (hPre_indices_in_range := Cert.Pre_indices_in_range.Gen.facts) := by
  intro m g m' g' hpre hag
  have A : ∀ c : Dev Cert.KernelIdeal.nD, Agrees m c (StableHlo.launchContents m' c) := fun c => by
    obtain ⟨h0, h1, h2, h3, h4, h5, h6, h7, h8, h9, h10, h11, h12, h13, h14, h15, h16, h17, h18, h19, h20, h21, h22, h23, h24, h25, h26, h27⟩ := hag c
    exact agrees_launch c h0 h6 h7 h8 h10 h11 h12 h13 h16 h18 h19 h20 h21 h22 h25 h26 h27
  have hn : ∀ c t, count (atomLens m c) t ≤ 4320 := fun c t => by
    have := (in_range hpre c t).1
    unfold Cert.KernelIdeal.Values.count; omega
  have hb : ∀ c t, ∃ b : Fin 33, molIds m c (ix2 0 t) = BitVec.ofNat 32 b.val := fun c t =>
    word_of_range _ (in_range hpre c t).2.1 (in_range hpre c t).2.2
  refine ⟨fun c => broadcastInDim S1x512x384 ![1, 2] Cert.KernelIdeal.Gen.bcast_S512x384_S1x512x384_1_2 (singleOut m c), fun c => present (lengths m c),
    fun c => broadcastInDim S1x512x512x128 ![1, 2, 3] Cert.KernelIdeal.Gen.bcast_S512x512x128_S1x512x512x128_1_2_3 (fun i : S512x512x128.Idx => pairOut m c (i 0) (i 1) (i 2)),
    fun c => presentPairs (present (lengths m c)), ?_, ?_⟩
  · have hk := θ_run_and (results m g) (Cert.KernelIdeal.Region.unchanged (F := Ideal) m g)
    refine (θ_run Cert.KernelIdeal.defs _ _).mono ?_ hk
    intro r h c
    have h1 := h.1 c
    exact ⟨h1.1, h1.2.1, h1.2.2.1, h1.2.2.2, h.2 c⟩
  · exact (θ_run Cert.ReferenceIdeal.defs _ _).mono (fun r h c =>
      ⟨(h c).1.trans (single_result (A c) (hn c) (hb c)).symm, (h c).2.1.trans (mask_result (A c)).symm,
        (h c).2.2.1.trans (pair_result (A c) (hn c)).symm, (h c).2.2.2.1.trans (pairs_result (A c)).symm, (h c).2.2.2.2⟩)
      (Cert.ReferenceIdeal.Value.run (F := Ideal) m' g')

end Cert.Join

end
-- ==== Proof.lean ====
/- The frames of the kernel, of its reading over the extended reals and of the reference, and the equality of the two's results. -/
module

public import proofs.«01_k».proof.Defs
public import proofs.«01_k».proof.Proof.Launch.Frame
public import proofs.«01_k».proof.Proof.Region.Frame
public import proofs.«01_k».proof.Proof.Join.Algebraic
public import proofs.«01_k».proof.Proof.Gen.ReferenceIdeal.Run
public import proofs.«01_k».proof.Proof.Gen.Pre_indices_in_range
public import Idealize.ShloMosaic.Adequacy
public import Idealize.ShloMosaic.Init

@[expose] public section

noncomputable section

namespace Cert.Proof

open Idealize.ShloMosaic Idealize.SL.Sem

/-- The reference's frame: its run read at the arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_indices_in_range.Gen.facts,
    fun m ρ _ => Cert.Kernel.Region.frame m ρ, fun m ρ _ => Cert.KernelIdeal.Region.frame m ρ, fun m ρ _ => Cert.KernelIdeal.Region.frame m ρ,
    frame_reference, fun m ρ _ => frame_reference m ρ trivial, trivial, Cert.Join.algebraic⟩

end Cert.Proof

end
